-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_neighbourhoods_apart_from_zero [hPre_neighbourhoods_apart_from_zero : Cert.Pre_neighbourhoods_apart_from_zero.Facts] (m : (ℓ : Loc Cert.KernelIdeal.nD Cert.KernelIdeal.τ Cert.KernelIdeal.sig) → Buf (Elt Ideal) ℓ) : Prop :=
  ∀ c : Dev Cert.KernelIdeal.nD,
    (Cert.Pre_neighbourhoods_apart_from_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_neighbourhoods_apart_from_zero [hPre_neighbourhoods_apart_from_zero : Cert.Pre_neighbourhoods_apart_from_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_neighbourhoods_apart_from_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_neighbourhoods_apart_from_zero [hKernelIdeal : Cert.KernelIdeal.Facts] [hPre_neighbourhoods_apart_from_zero : Cert.Pre_neighbourhoods_apart_from_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_neighbourhoods_apart_from_zero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_neighbourhoods_apart_from_zero [hReferenceIdeal : Cert.ReferenceIdeal.Facts] [hPre_neighbourhoods_apart_from_zero : Cert.Pre_neighbourhoods_apart_from_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_neighbourhoods_apart_from_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_neighbourhoods_apart_from_zero [hKernelIdeal : Cert.KernelIdeal.Facts] [hReferenceIdeal : Cert.ReferenceIdeal.Facts] [hPre_neighbourhoods_apart_from_zero : Cert.Pre_neighbourhoods_apart_from_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_neighbourhoods_apart_from_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_neighbourhoods_apart_from_zero : Cert.Pre_neighbourhoods_apart_from_zero.Facts),
    quiescent_Kernel (hKernel := hKernel)
    ∧ quiescent_KernelIdeal (hKernelIdeal := hKernelIdeal)
    ∧ quiescent_KernelIdeal_pre_neighbourhoods_apart_from_zero (hKernelIdeal := hKernelIdeal) (hPre_neighbourhoods_apart_from_zero := hPre_neighbourhoods_apart_from_zero)
    ∧ quiescent_ReferenceIdeal (hReferenceIdeal := hReferenceIdeal)
    ∧ quiescent_ReferenceIdeal_pre_neighbourhoods_apart_from_zero (hReferenceIdeal := hReferenceIdeal) (hPre_neighbourhoods_apart_from_zero := hPre_neighbourhoods_apart_from_zero)
    ∧ preserves_Kernel_KernelIdeal
    ∧ algebraic_KernelIdeal_ReferenceIdeal_pre_neighbourhoods_apart_from_zero (hKernelIdeal := hKernelIdeal) (hReferenceIdeal := hReferenceIdeal) (hPre_neighbourhoods_apart_from_zero := hPre_neighbourhoods_apart_from_zero)
-- ==== Pre_neighbourhoods_apart_from_zero.lean ====
abbrev S4x8192x256 : Shape := ⟨3, ![4, 8192, 256]⟩
abbrev S4x8192x3 : Shape := ⟨3, ![4, 8192, 3]⟩
abbrev S8x8192x3 : Shape := ⟨3, ![8, 8192, 3]⟩
abbrev S8x8192x256 : Shape := ⟨3, ![8, 8192, 256]⟩
abbrev S_ : Shape := ⟨0, ![]⟩
abbrev S8x8192 : Shape := ⟨2, ![8, 8192]⟩
abbrev S8x8192x1x3 : Shape := ⟨4, ![8, 8192, 1, 3]⟩
abbrev S8x1x8192x3 : Shape := ⟨4, ![8, 1, 8192, 3]⟩
abbrev S8x8192x8192x3 : Shape := ⟨4, ![8, 8192, 8192, 3]⟩
abbrev S8x8192x8192 : Shape := ⟨3, ![8, 8192, 8192]⟩
abbrev S8x8192x1 : Shape := ⟨3, ![8, 8192, 1]⟩
abbrev S8x1x8192 : Shape := ⟨3, ![8, 1, 8192]⟩
abbrev S8x8192x32 : Shape := ⟨3, ![8, 8192, 32]⟩
abbrev S8x8192x32x1 : Shape := ⟨4, ![8, 8192, 32, 1]⟩
abbrev S8x8192x32x256 : Shape := ⟨4, ![8, 8192, 32, 256]⟩
abbrev S8x8192x1x256 : Shape := ⟨4, ![8, 8192, 1, 256]⟩
abbrev S8x8192x33x256 : Shape := ⟨4, ![8, 8192, 33, 256]⟩
abbrev S8x8192x33 : Shape := ⟨3, ![8, 8192, 33]⟩

class Facts : Prop where
  concatenates_S4x8192x3_S4x8192x3_S8x8192x3_d0 : Shape.Concatenates [S4x8192x3, S4x8192x3] S8x8192x3 0
  concatenates_S4x8192x256_S4x8192x256_S8x8192x256_d0 : Shape.Concatenates [S4x8192x256, S4x8192x256] S8x8192x256 0
  bcast_S_S8x8192x3 : S_.BroadcastsInDim S8x8192x3 (![] : Fin 0 → Fin S8x8192x3.rank)
  reducesTo_S8x8192x3_S_d0_1_2 : S8x8192x3.ReducesTo [0, 1, 2] S_
  h_S_ : 0 < S_.numel
  bcast_S_S8x8192x256 : S_.BroadcastsInDim S8x8192x256 (![] : Fin 0 → Fin S8x8192x256.rank)
  reducesTo_S8x8192x256_S_d0_1_2 : S8x8192x256.ReducesTo [0, 1, 2] S_
  reducesTo_S8x8192x3_S8x8192_d2 : S8x8192x3.ReducesTo [2] S8x8192
  bcast_S8x8192x3_S8x8192x1x3_0_1_3 : S8x8192x3.BroadcastsInDim S8x8192x1x3 (![0, 1, 3] : Fin 3 → Fin S8x8192x1x3.rank)
  bcast_S8x8192x3_S8x1x8192x3_0_2_3 : S8x8192x3.BroadcastsInDim S8x1x8192x3 (![0, 2, 3] : Fin 3 → Fin S8x1x8192x3.rank)
  bcast_S8x8192x1x3_S8x8192x8192x3_0_1_2_3 : S8x8192x1x3.BroadcastsInDim S8x8192x8192x3 (![0, 1, 2, 3] : Fin 4 → Fin S8x8192x8192x3.rank)
  bcast_S8x1x8192x3_S8x8192x8192x3_0_1_2_3 : S8x1x8192x3.BroadcastsInDim S8x8192x8192x3 (![0, 1, 2, 3] : Fin 4 → Fin S8x8192x8192x3.rank)
  reducesTo_S8x8192x8192x3_S8x8192x8192_d3 : S8x8192x8192x3.ReducesTo [3] S8x8192x8192
  bcast_S8x8192_S8x8192x1_0_1 : S8x8192.BroadcastsInDim S8x8192x1 (![0, 1] : Fin 2 → Fin S8x8192x1.rank)
  bcast_S8x8192_S8x1x8192_0_2 : S8x8192.BroadcastsInDim S8x1x8192 (![0, 2] : Fin 2 → Fin S8x1x8192.rank)
  bcast_S8x8192x1_S8x8192x8192_0_1_2 : S8x8192x1.BroadcastsInDim S8x8192x8192 (![0, 1, 2] : Fin 3 → Fin S8x8192x8192.rank)
  bcast_S8x1x8192_S8x8192x8192_0_1_2 : S8x1x8192.BroadcastsInDim S8x8192x8192 (![0, 1, 2] : Fin 3 → Fin S8x8192x8192.rank)
  bcast_S_S8x8192x8192 : S_.BroadcastsInDim S8x8192x8192 (![] : Fin 0 → Fin S8x8192x8192.rank)
  sliceFits_S8x8192x8192_S8x8192x32 : S8x8192x8192.Slices (fun _ => 0) S8x8192x32
  bcast_S_S8x8192x32 : S_.BroadcastsInDim S8x8192x32 (![] : Fin 0 → Fin S8x8192x32.rank)
  bcast_S8x8192x32_S8x8192x32x1_0_1_2 : S8x8192x32.BroadcastsInDim S8x8192x32x1 (![0, 1, 2] : Fin 3 → Fin S8x8192x32x1.rank)
  bcast_S8x8192x256_S8x8192x1x256_0_1_3 : S8x8192x256.BroadcastsInDim S8x8192x1x256 (![0, 1, 3] : Fin 3 → Fin S8x8192x1x256.rank)
  concatenates_S8x8192x32x256_S8x8192x1x256_S8x8192x33x256_d2 : Shape.Concatenates [S8x8192x32x256, S8x8192x1x256] S8x8192x33x256 2
  reducesTo_S8x8192x33x256_S8x8192x33_d3 : S8x8192x33x256.ReducesTo [3] S8x8192x33
  reducesTo_S8x8192x33x256_S8x8192x256_d2 : S8x8192x33x256.ReducesTo [2] S8x8192x256
  reducesTo_S8x8192x256_S8x8192_d2 : S8x8192x256.ReducesTo [2] S8x8192
  bcast_S8x8192x1_S8x8192x33_0_1_2 : S8x8192x1.BroadcastsInDim S8x8192x33 (![0, 1, 2] : Fin 3 → Fin S8x8192x33.rank)
  bcast_S_S8x8192x33 : S_.BroadcastsInDim S8x8192x33 (![] : Fin 0 → Fin S8x8192x33.rank)
  reducesTo_S8x8192x33_S_d0_1_2 : S8x8192x33.ReducesTo [0, 1, 2] S_
  gather_S8x8192x256_S8x8192x32x1_S8x8192x32x256_3_1_0_0_1_3_11256_wf : GatherDims.WF S8x8192x256 S8x8192x32x1 S8x8192x32x256 [3] [1] [0] [1] [0] 3 ![1, 1, 256]

variable [Facts]

def gather_S8x8192x256_S8x8192x32x1_S8x8192x32x256_3_1_0_0_1_3_11256 : GatherDims S8x8192x256 S8x8192x32x1 S8x8192x32x256 where
  offsetDims := [3]
  collapsedSliceDims := [1]
  operandBatchingDims := [0]
  startIndicesBatchingDims := [0]
  startIndexMap := [1]
  indexVectorDim := 3
  sliceSizes := ![1, 1, 256]
  wf := gather_S8x8192x256_S8x8192x32x1_S8x8192x32x256_3_1_0_0_1_3_11256_wf
def fn_part2 {F : FTy → Type} [FloatOps F] (main_v10 : IVec S_ 1) (main_v36 : FVec F S8x8192x33x256 .f32) : IVec S_ 1 :=
  let main_v37 : FVec F S8x8192x33x256 .f32 := mulf main_v36 main_v36
  let main_cst_7 : FVec F S_ .f32 := constant S_ .f32 0x00000000#32
  let main_v38 : FVec F S8x8192x33 .f32 := (fun x v => Host.reduceAdd x v reducesTo_S8x8192x33x256_S8x8192x33_d3 h_S_) main_v37 main_cst_7
  let main_v39 : FVec F S8x8192x33 .f32 := Host.sqrt main_v38
  let main_cst_8 : FVec F S_ .f32 := constant S_ .f32 0x00000000#32
  let main_v40 : FVec F S8x8192x256 .f32 := (fun x v => Host.reduceAdd x v reducesTo_S8x8192x33x256_S8x8192x256_d2 h_S_) main_v36 main_cst_8
  let main_cst_9 : FVec F S_ .f32 := constant S_ .f32 0x42040000#32
  let main_v41 : FVec F S8x8192x256 .f32 := broadcastInDim S8x8192x256 ![] bcast_S_S8x8192x256 main_cst_9
  let main_v42 : FVec F S8x8192x256 .f32 := Host.divf main_v40 main_v41
  let main_v43 : FVec F S8x8192x256 .f32 := mulf main_v42 main_v42
  let main_cst_10 : FVec F S_ .f32 := constant S_ .f32 0x00000000#32
  let main_v44 : FVec F S8x8192 .f32 := (fun x v => Host.reduceAdd x v reducesTo_S8x8192x256_S8x8192_d2 h_S_) main_v43 main_cst_10
  let main_v45 : FVec F S8x8192 .f32 := Host.sqrt main_v44
  let main_v46 : FVec F S8x8192x1 .f32 := broadcastInDim S8x8192x1 ![0, 1] bcast_S8x8192_S8x8192x1_0_1 main_v45
  let main_v47 : FVec F S8x8192x33 .f32 := broadcastInDim S8x8192x33 ![0, 1, 2] bcast_S8x8192x1_S8x8192x33_0_1_2 main_v46
  let main_v48 : FVec F S8x8192x33 .f32 := mulf main_v39 main_v47
  let main_cst_11 : FVec F S_ .f32 := constant S_ .f32 0x322BCC77#32
  let main_v49 : FVec F S8x8192x33 .f32 := broadcastInDim S8x8192x33 ![] bcast_S_S8x8192x33 main_cst_11
  let main_v50 : IVec S8x8192x33 1 := cmpf .oge main_v48 main_v49
  let main_c_12 : IVec S_ 1 := constantI S_ 1 1#1
  let main_v51 : IVec S_ 1 := (fun x v => Host.reduce IntOp.andi x v reducesTo_S8x8192x33_S_d0_1_2 h_S_) main_v50 main_c_12
  let main_v52 : IVec S_ 1 := andi main_v10 main_v51
  main_v52

def fn_part1 {F : FTy → Type} [FloatOps F] (main_v1 : FVec F S8x8192x256 .f32) (main_v10 : IVec S_ 1) (main_v12 : FVec F S8x8192 .f32) (main_v17 : FVec F S8x8192x8192x3 .f32) (main_cst_3 : FVec F S_ .f32) : IVec S_ 1 :=
  let main_v18 : FVec F S8x8192x8192 .f32 := (fun x v => Host.reduceAdd x v reducesTo_S8x8192x8192x3_S8x8192x8192_d3 h_S_) main_v17 main_cst_3
  let main_v19 : FVec F S8x8192x1 .f32 := broadcastInDim S8x8192x1 ![0, 1] bcast_S8x8192_S8x8192x1_0_1 main_v12
  let main_v20 : FVec F S8x1x8192 .f32 := broadcastInDim S8x1x8192 ![0, 2] bcast_S8x8192_S8x1x8192_0_2 main_v12
  let main_v21 : FVec F S8x8192x8192 .f32 := broadcastInDim S8x8192x8192 ![0, 1, 2] bcast_S8x8192x1_S8x8192x8192_0_1_2 main_v19
  let main_v22 : FVec F S8x8192x8192 .f32 := broadcastInDim S8x8192x8192 ![0, 1, 2] bcast_S8x1x8192_S8x8192x8192_0_1_2 main_v20
  let main_v23 : FVec F S8x8192x8192 .f32 := addf main_v21 main_v22
  let main_cst_4 : FVec F S_ .f32 := constant S_ .f32 0x40000000#32
  let main_v24 : FVec F S8x8192x8192 .f32 := broadcastInDim S8x8192x8192 ![] bcast_S_S8x8192x8192 main_cst_4
  let main_v25 : FVec F S8x8192x8192 .f32 := mulf main_v24 main_v18
  let main_v26 : FVec F S8x8192x8192 .f32 := subf main_v23 main_v25
  let main_v27 : FVec F S8x8192x8192 .f32 := Host.negf main_v26
  let main_values : FVec F S8x8192x32 .f32 := (fun x => (Host.topK S8x8192x32 2 (FloatOps.cmpfTotal .gt) x sliceFits_S8x8192x8192_S8x8192x32).1) main_v27
  let main_indices : IVec S8x8192x32 32 := (fun x => (Host.topK S8x8192x32 2 (FloatOps.cmpfTotal .gt) x sliceFits_S8x8192x8192_S8x8192x32).2) main_v27
  let main_c_5 : IVec S_ 32 := constantI S_ 32 0#32
  let main_v28 : IVec S8x8192x32 32 := broadcastInDim S8x8192x32 ![] bcast_S_S8x8192x32 main_c_5
  let main_v29 : IVec S8x8192x32 1 := cmpi .slt main_indices main_v28
  let main_c_6 : IVec S_ 32 := constantI S_ 32 8192#32
  let main_v30 : IVec S8x8192x32 32 := broadcastInDim S8x8192x32 ![] bcast_S_S8x8192x32 main_c_6
  let main_v31 : IVec S8x8192x32 32 := addi main_indices main_v30
  let main_v32 : IVec S8x8192x32 32 := select main_v29 main_v31 main_indices
  let main_v33 : IVec S8x8192x32x1 32 := broadcastInDim S8x8192x32x1 ![0, 1, 2] bcast_S8x8192x32_S8x8192x32x1_0_1_2 main_v32
  let main_v34 : FVec F S8x8192x32x256 .f32 := (fun x i => Host.gather gather_S8x8192x256_S8x8192x32x1_S8x8192x32x256_3_1_0_0_1_3_11256 x i) main_v1 main_v33
  let main_v35 : FVec F S8x8192x1x256 .f32 := broadcastInDim S8x8192x1x256 ![0, 1, 3] bcast_S8x8192x256_S8x8192x1x256_0_1_3 main_v1
  let main_v36 : FVec F S8x8192x33x256 .f32 := (fun a b => concatenate S8x8192x33x256 2 [⟨S8x8192x32x256, a⟩, ⟨S8x8192x1x256, b⟩] concatenates_S8x8192x32x256_S8x8192x1x256_S8x8192x33x256_d2) main_v34 main_v35
  fn_part2 (F := F) main_v10 main_v36

def fn {F : FTy → Type} [FloatOps F] (main_arg0 : FVec F S4x8192x256 .f32) (main_arg1 : FVec F S4x8192x256 .f32) (main_arg2 : FVec F S4x8192x3 .f32) (main_arg3 : FVec F S4x8192x3 .f32) (main_arg4 : FVec F S4x8192x3 .f32) : IVec S_ 1 :=
  let main_v0 : FVec F S8x8192x3 .f32 := (fun a b => concatenate S8x8192x3 0 [⟨S4x8192x3, a⟩, ⟨S4x8192x3, b⟩] concatenates_S4x8192x3_S4x8192x3_S8x8192x3_d0) main_arg2 main_arg3
  let main_v1 : FVec F S8x8192x256 .f32 := (fun a b => concatenate S8x8192x256 0 [⟨S4x8192x256, a⟩, ⟨S4x8192x256, b⟩] concatenates_S4x8192x256_S4x8192x256_S8x8192x256_d0) main_arg0 main_arg1
  let main_v2 : FVec F S8x8192x3 .f32 := Host.absf main_v0
  let main_cst : FVec F S_ .f32 := constant S_ .f32 0x56B5E621#32
  let main_v3 : FVec F S8x8192x3 .f32 := broadcastInDim S8x8192x3 ![] bcast_S_S8x8192x3 main_cst
  let main_v4 : IVec S8x8192x3 1 := cmpf .ole main_v2 main_v3
  let main_c : IVec S_ 1 := constantI S_ 1 1#1
  let main_v5 : IVec S_ 1 := (fun x v => Host.reduce IntOp.andi x v reducesTo_S8x8192x3_S_d0_1_2 h_S_) main_v4 main_c
  let main_v6 : FVec F S8x8192x256 .f32 := Host.absf main_v1
  let main_cst_0 : FVec F S_ .f32 := constant S_ .f32 0x56B5E621#32
  let main_v7 : FVec F S8x8192x256 .f32 := broadcastInDim S8x8192x256 ![] bcast_S_S8x8192x256 main_cst_0
  let main_v8 : IVec S8x8192x256 1 := cmpf .ole main_v6 main_v7
  let main_c_1 : IVec S_ 1 := constantI S_ 1 1#1
  let main_v9 : IVec S_ 1 := (fun x v => Host.reduce IntOp.andi x v reducesTo_S8x8192x256_S_d0_1_2 h_S_) main_v8 main_c_1
  let main_v10 : IVec S_ 1 := andi main_v5 main_v9
  let main_v11 : FVec F S8x8192x3 .f32 := mulf main_v0 main_v0
  let main_cst_2 : FVec F S_ .f32 := constant S_ .f32 0x00000000#32
  let main_v12 : FVec F S8x8192 .f32 := (fun x v => Host.reduceAdd x v reducesTo_S8x8192x3_S8x8192_d2 h_S_) main_v11 main_cst_2
  let main_v13 : FVec F S8x8192x1x3 .f32 := broadcastInDim S8x8192x1x3 ![0, 1, 3] bcast_S8x8192x3_S8x8192x1x3_0_1_3 main_v0
  let main_v14 : FVec F S8x1x8192x3 .f32 := broadcastInDim S8x1x8192x3 ![0, 2, 3] bcast_S8x8192x3_S8x1x8192x3_0_2_3 main_v0
  let main_v15 : FVec F S8x8192x8192x3 .f32 := broadcastInDim S8x8192x8192x3 ![0, 1, 2, 3] bcast_S8x8192x1x3_S8x8192x8192x3_0_1_2_3 main_v13
  let main_v16 : FVec F S8x8192x8192x3 .f32 := broadcastInDim S8x8192x8192x3 ![0, 1, 2, 3] bcast_S8x1x8192x3_S8x8192x8192x3_0_1_2_3 main_v14
  let main_v17 : FVec F S8x8192x8192x3 .f32 := mulf main_v15 main_v16
  let main_cst_3 : FVec F S_ .f32 := constant S_ .f32 0x00000000#32
  fn_part1 (F := F) main_v1 main_v10 main_v12 main_v17 main_cst_3
-- ==== Kernel.lean ====
abbrev S4x8192x256 : Shape := ⟨3, ![4, 8192, 256]⟩
abbrev S4x8192x3 : Shape := ⟨3, ![4, 8192, 3]⟩
abbrev S1x1x1 : Shape := ⟨3, ![1, 1, 1]⟩
abbrev S4x8192x1 : Shape := ⟨3, ![4, 8192, 1]⟩
abbrev S1x1024x256 : Shape := ⟨3, ![1, 1024, 256]⟩
abbrev S1x1024x1 : Shape := ⟨3, ![1, 1024, 1]⟩
abbrev S1024x256 : Shape := ⟨2, ![1024, 256]⟩
abbrev S1024 : Shape := ⟨1, ![1024]⟩
abbrev S1024x1 : Shape := ⟨2, ![1024, 1]⟩
abbrev S1 : Shape := ⟨1, ![1]⟩
abbrev S_ : Shape := ⟨0, ![]⟩
abbrev S4x8192 : Shape := ⟨2, ![4, 8192]⟩
abbrev S8x8192 : Shape := ⟨2, ![8, 8192]⟩
abbrev S8x512 : Shape := ⟨2, ![8, 512]⟩
abbrev S8 : Shape := ⟨1, ![8]⟩
abbrev S8x1 : Shape := ⟨2, ![8, 1]⟩
abbrev S4x512 : Shape := ⟨2, ![4, 512]⟩
abbrev S16x128x1 : Shape := ⟨3, ![16, 128, 1]⟩
abbrev S4x1x8192 : Shape := ⟨3, ![4, 1, 8192]⟩
abbrev S4x1x1 : Shape := ⟨3, ![4, 1, 1]⟩
abbrev S1x8192x256 : Shape := ⟨3, ![1, 8192, 256]⟩
abbrev S1x1x8192 : Shape := ⟨3, ![1, 1, 8192]⟩
abbrev S1x128x1 : Shape := ⟨3, ![1, 128, 1]⟩
abbrev S8192x256 : Shape := ⟨2, ![8192, 256]⟩
abbrev S1x8192 : Shape := ⟨2, ![1, 8192]⟩
abbrev S128x1 : Shape := ⟨2, ![128, 1]⟩
abbrev S128x8192 : Shape := ⟨2, ![128, 8192]⟩
abbrev S128 : Shape := ⟨1, ![128]⟩
abbrev S128x256 : Shape := ⟨2, ![128, 256]⟩
abbrev S4 : Shape := ⟨1, ![4]⟩

abbrev nBuf : Space → Nat
  | .hbm => 87
  | .vmem => 41
  | .smem => 0
  | _ => 0

abbrev bufTy : (tb : Table) → Fin (tcTables nBuf tb) → BufTy
  | .hbm, ⟨0, _⟩ => ⟨S4x8192x256, .f32⟩
  | .hbm, ⟨1, _⟩ => ⟨S4x8192x256, .f32⟩
  | .hbm, ⟨2, _⟩ => ⟨S4x8192x3, .f32⟩
  | .hbm, ⟨3, _⟩ => ⟨S4x8192x3, .f32⟩
  | .hbm, ⟨4, _⟩ => ⟨S4x8192x3, .f32⟩
  | .hbm, ⟨5, _⟩ => ⟨S1x1x1, .f32⟩
  | .hbm, ⟨6, _⟩ => ⟨S4x8192x1, .f32⟩
  | .hbm, ⟨7, _⟩ => ⟨S4x8192x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4x8192x1, .f32⟩
  | .hbm, ⟨13, _⟩ => ⟨S4x8192, .f32⟩
  | .hbm, ⟨14, _⟩ => ⟨S4x8192x1, .f32⟩
  | .hbm, ⟨15, _⟩ => ⟨S4x8192, .f32⟩
  | .hbm, ⟨16, _⟩ => ⟨S8x8192, .f32⟩
  | .hbm, ⟨17, _⟩ => ⟨S4x8192x1, .f32⟩
  | .hbm, ⟨18, _⟩ => ⟨S4x8192, .f32⟩
  | .hbm, ⟨19, _⟩ => ⟨S4x8192x1, .f32⟩
  | .hbm, ⟨20, _⟩ => ⟨S4x8192, .f32⟩
  | .hbm, ⟨21, _⟩ => ⟨S8x8192, .f32⟩
  | .hbm, ⟨22, _⟩ => ⟨S4x8192x1, .f32⟩
  | .hbm, ⟨23, _⟩ => ⟨S4x8192, .f32⟩
  | .hbm, ⟨24, _⟩ => ⟨S4x8192x1, .f32⟩
  | .hbm, ⟨25, _⟩ => ⟨S4x8192, .f32⟩
  | .hbm, ⟨26, _⟩ => ⟨S8x8192, .f32⟩
  | .hbm, ⟨27, _⟩ => ⟨S8x512, .f32⟩
  | .hbm, ⟨28, _⟩ => ⟨S4x512, .f32⟩
  | .hbm, ⟨29, _⟩ => ⟨S16x128x1, .f32⟩
  | .hbm, ⟨30, _⟩ => ⟨S4x512, .f32⟩
  | .hbm, ⟨31, _⟩ => ⟨S16x128x1, .f32⟩
  | .hbm, ⟨32, _⟩ => ⟨S4x8192, .f32⟩
  | .hbm, ⟨33, _⟩ => ⟨S4x1x8192, .f32⟩
  | .hbm, ⟨34, _⟩ => ⟨S4x8192, .f32⟩
  | .hbm, ⟨35, _⟩ => ⟨S4x1x8192, .f32⟩
  | .hbm, ⟨36, _⟩ => ⟨S4x8192, .f32⟩
  | .hbm, ⟨37, _⟩ => ⟨S4x1x8192, .f32⟩
  | .hbm, ⟨38, _⟩ => ⟨S4x1x8192, .f32⟩
  | .hbm, ⟨39, _⟩ => ⟨S4x1x1, .f32⟩
  | .hbm, ⟨40, _⟩ => ⟨S4, .f32⟩
  | .hbm, ⟨41, _⟩ => ⟨S4x8192, .f32⟩
  | .hbm, ⟨42, _⟩ => ⟨S4x1x8192, .f32⟩
  | .hbm, ⟨43, _⟩ => ⟨S4x8192, .f32⟩
  | .hbm, ⟨44, _⟩ => ⟨S4x1x8192, .f32⟩
  | .hbm, ⟨45, _⟩ => ⟨S4x8192, .f32⟩
  | .hbm, ⟨46, _⟩ => ⟨S4x1x8192, .f32⟩
  | .hbm, ⟨47, _⟩ => ⟨S4x1x8192, .f32⟩
  | .hbm, ⟨48, _⟩ => ⟨S4x1x1, .f32⟩
  | .hbm, ⟨49, _⟩ => ⟨S4, .f32⟩
  | .hbm, ⟨50, _⟩ => ⟨S1, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S1, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S1, .f32⟩
  | .hbm, ⟨60, _⟩ => ⟨S_, .f32⟩
  | .hbm, ⟨61, _⟩ => ⟨S_, .f32⟩
  | .hbm, ⟨62, _⟩ => ⟨S1, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S1, .f32⟩
  | .hbm, ⟨68, _⟩ => ⟨S_, .f32⟩
  | .hbm, ⟨69, _⟩ => ⟨S_, .f32⟩
  | .hbm, ⟨70, _⟩ => ⟨S1, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S1, .f32⟩
  | .hbm, ⟨76, _⟩ => ⟨S_, .f32⟩
  | .hbm, ⟨77, _⟩ => ⟨S_, .f32⟩
  | .hbm, ⟨78, _⟩ => ⟨S1, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x256, .f32⟩
  | .local _ .vmem, ⟨3, _⟩ => ⟨S1x1024x256, .f32⟩
  | .local _ .vmem, ⟨4, _⟩ => ⟨S1x1x1, .f32⟩
  | .local _ .vmem, ⟨5, _⟩ => ⟨S1x1024x1, .f32⟩
  | .local _ .vmem, ⟨6, _⟩ => ⟨S1x1024x1, .f32⟩
  | .local _ .vmem, ⟨7, _⟩ => ⟨S1x1024x1, .f32⟩
  | .local _ .vmem, ⟨8, _⟩ => ⟨S1x1024x1, .f32⟩
  | .local _ .vmem, ⟨9, _⟩ => ⟨S8x8192, .f32⟩
  | .local _ .vmem, ⟨10, _⟩ => ⟨S8x8192, .f32⟩
  | .local _ .vmem, ⟨11, _⟩ => ⟨S8x8192, .f32⟩
  | .local _ .vmem, ⟨12, _⟩ => ⟨S8x512, .f32⟩
  | .local _ .vmem, ⟨13, _⟩ => ⟨S1x8192x256, .f32⟩
  | .local _ .vmem, ⟨14, _⟩ => ⟨S1x8192x256, .f32⟩
  | .local _ .vmem, ⟨15, _⟩ => ⟨S1x1x8192, .f32⟩
  | .local _ .vmem, ⟨16, _⟩ => ⟨S1x1x8192, .f32⟩
  | .local _ .vmem, ⟨17, _⟩ => ⟨S1x1x8192, .f32⟩
  | .local _ .vmem, ⟨18, _⟩ => ⟨S1x1x8192, .f32⟩
  | .local _ .vmem, ⟨19, _⟩ => ⟨S1x1x8192, .f32⟩
  | .local _ .vmem, ⟨20, _⟩ => ⟨S1x1x8192, .f32⟩
  | .local _ .vmem, ⟨21, _⟩ => ⟨S1x1x8192, .f32⟩
  | .local _ .vmem, ⟨22, _⟩ => ⟨S1x1x8192, .f32⟩
  | .local _ .vmem, ⟨23, _⟩ => ⟨S1x128x1, .f32⟩
  | .local _ .vmem, ⟨24, _⟩ => ⟨S1x128x1, .f32⟩
  | .local _ .vmem, ⟨25, _⟩ => ⟨S1x1x1, .f32⟩
  | .local _ .vmem, ⟨26, _⟩ => ⟨S1x1x1, .f32⟩
  | .local _ .vmem, ⟨27, _⟩ => ⟨S1x8192x256, .f32⟩
  | .local _ .vmem, ⟨28, _⟩ => ⟨S1x8192x256, .f32⟩
  | .local _ .vmem, ⟨29, _⟩ => ⟨S1x1x8192, .f32⟩
  | .local _ .vmem, ⟨30, _⟩ => ⟨S1x1x8192, .f32⟩
  | .local _ .vmem, ⟨31, _⟩ => ⟨S1x1x8192, .f32⟩
  | .local _ .vmem, ⟨32, _⟩ => ⟨S1x1x8192, .f32⟩
  | .local _ .vmem, ⟨33, _⟩ => ⟨S1x1x8192, .f32⟩
  | .local _ .vmem, ⟨34, _⟩ => ⟨S1x1x8192, .f32⟩
  | .local _ .vmem, ⟨35, _⟩ => ⟨S1x1x8192, .f32⟩
  | .local _ .vmem, ⟨36, _⟩ => ⟨S1x1x8192, .f32⟩
  | .local _ .vmem, ⟨37, _⟩ => ⟨S1x128x1, .f32⟩
  | .local _ .vmem, ⟨38, _⟩ => ⟨S1x128x1, .f32⟩
  | .local _ .vmem, ⟨39, _⟩ => ⟨S1x1x1, .f32⟩
  | .local _ .vmem, ⟨40, _⟩ => ⟨S1x1x1, .f32⟩
  | _, _ => ⟨S4x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_0 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_1 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_cst_2 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_cst_3 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_cst_4 : Ref sig .tc := ⟨.hbm, 81, rfl⟩
abbrev main_v69 : Ref sig .tc := ⟨.hbm, 82, rfl⟩
abbrev main_cst_5 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc2_stg5_0 : Ref sig .tc := ⟨.vmem, 23, rfl⟩
abbrev cc2_stg5_1 : Ref sig .tc := ⟨.vmem, 24, rfl⟩
abbrev cc2_stg6_0 : Ref sig .tc := ⟨.vmem, 25, rfl⟩
abbrev cc2_stg6_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc3_stg4_0 : Ref sig .tc := ⟨.vmem, 35, rfl⟩
abbrev cc3_stg4_1 : Ref sig .tc := ⟨.vmem, 36, rfl⟩
abbrev cc3_stg5_0 : Ref sig .tc := ⟨.vmem, 37, rfl⟩
abbrev cc3_stg5_1 : Ref sig .tc := ⟨.vmem, 38, rfl⟩
abbrev cc3_stg6_0 : Ref sig .tc := ⟨.vmem, 39, rfl⟩
abbrev cc3_stg6_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem2_0 : DmaSem sig := 11
abbrev cc1_sem3_0 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc2_sem4_0 : DmaSem sig := 21
abbrev cc2_sem4_1 : DmaSem sig := 22
abbrev cc2_sem5_0 : DmaSem sig := 23
abbrev cc2_sem5_1 : DmaSem sig := 24
abbrev cc2_sem6_0 : DmaSem sig := 25
abbrev cc2_sem6_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem3_1 : DmaSem sig := 34
abbrev cc3_sem4_0 : DmaSem sig := 35
abbrev cc3_sem4_1 : DmaSem sig := 36
abbrev cc3_sem5_0 : DmaSem sig := 37
abbrev cc3_sem5_1 : DmaSem sig := 38
abbrev cc3_sem6_0 : DmaSem sig := 39
abbrev cc3_sem6_1 : DmaSem sig := 40

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c0_i32 : BitVec 32 := 0#32
  let v29 : BitVec 1 := Scalar.cmpi .eq arg0 c0_i32
  let arg1 : BitVec 32 := BitVec.ofNat 32 (i 1).val
  let c0_i32_15 : BitVec 32 := 0#32
  let v30 : BitVec 1 := Scalar.cmpi .eq arg1 c0_i32_15
  let v31 : BitVec 1 := Scalar.andi v29 v30
  let v32 : BitVec 32 := Scalar.extui v31
  let c0_i32_16 : BitVec 32 := 0#32
  let v33 : BitVec 1 := Scalar.cmpi .ne v32 c0_i32_16
  v33

def k0_cond2 (i : grid0.Coords) : BitVec 1 :=
  let arg0 : BitVec 32 := BitVec.ofNat 32 (i 0).val
  let c0_i32_17 : BitVec 32 := 0#32
  let v34 : BitVec 1 := Scalar.cmpi .eq arg0 c0_i32_17
  let arg1 : BitVec 32 := BitVec.ofNat 32 (i 1).val
  let c0_i32_18 : BitVec 32 := 0#32
  let v35 : BitVec 1 := Scalar.cmpi .eq arg1 c0_i32_18
  let v36 : BitVec 1 := Scalar.andi v34 v35
  let v_true : BitVec 1 := 1#1
  let v37 : BitVec 1 := Scalar.xori v36 v_true
  let v38 : BitVec 32 := Scalar.extui v37
  let c0_i32_19 : BitVec 32 := 0#32
  let v39 : BitVec 1 := Scalar.cmpi .ne v38 c0_i32_19
  v39

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := .none

@[reducible] def k1_t1_loop : Scf.Loop 32 :=
  let c0_i32 : BitVec 32 := 0#32
  let c512_i32 : BitVec 32 := 512#32
  let v20 : BitVec 32 := Scalar.addi c0_i32 c512_i32
  let c1_i32 : BitVec 32 := 1#32
  ⟨c0_i32, v20, c1_i32⟩
abbrev stage1_0 : Fin 1 → Memref sig .tc .vmem S8x8192 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x8192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8x8192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S8x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev grid2 : Pipeline.Grid := ⟨2, ![4, 4], ![false, false]⟩

@[reducible] def k2_t1_loop : Scf.Loop 32 :=
  let c0_i32 : BitVec 32 := 0#32
  let c32_i32 : BitVec 32 := 32#32
  let v61 : BitVec 32 := Scalar.addi c0_i32 c32_i32
  let c1_i32 : BitVec 32 := 1#32
  ⟨c0_i32, v61, c1_i32⟩
def k2_cond1 (i : grid2.Coords) : BitVec 1 :=
  let arg1 : BitVec 32 := BitVec.ofNat 32 (i 1).val
  let c0_i32_43 : BitVec 32 := 0#32
  let v113 : BitVec 1 := Scalar.cmpi .eq arg1 c0_i32_43
  let v114 : BitVec 32 := Scalar.extui v113
  let c0_i32_44 : BitVec 32 := 0#32
  let v115 : BitVec 1 := Scalar.cmpi .ne v114 c0_i32_44
  v115

def k2_cond2 (i : grid2.Coords) : BitVec 1 :=
  let arg1 : BitVec 32 := BitVec.ofNat 32 (i 1).val
  let c0_i32_45 : BitVec 32 := 0#32
  let v116 : BitVec 1 := Scalar.cmpi .ne arg1 c0_i32_45
  let v117 : BitVec 32 := Scalar.extui v116
  let c0_i32_46 : BitVec 32 := 0#32
  let v118 : BitVec 1 := Scalar.cmpi .ne v117 c0_i32_46
  v118

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x8192x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x1x8192 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1x8192 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x1x8192 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x1x8192 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x128x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x1x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev grid3 : Pipeline.Grid := ⟨2, ![4, 4], ![false, false]⟩

@[reducible] def k3_t1_loop : Scf.Loop 32 :=
  let c0_i32 : BitVec 32 := 0#32
  let c32_i32 : BitVec 32 := 32#32
  let v61 : BitVec 32 := Scalar.addi c0_i32 c32_i32
  let c1_i32 : BitVec 32 := 1#32
  ⟨c0_i32, v61, c1_i32⟩
def k3_cond1 (i : grid3.Coords) : BitVec 1 :=
  let arg1 : BitVec 32 := BitVec.ofNat 32 (i 1).val
  let c0_i32_43 : BitVec 32 := 0#32
  let v113 : BitVec 1 := Scalar.cmpi .eq arg1 c0_i32_43
  let v114 : BitVec 32 := Scalar.extui v113
  let c0_i32_44 : BitVec 32 := 0#32
  let v115 : BitVec 1 := Scalar.cmpi .ne v114 c0_i32_44
  v115

def k3_cond2 (i : grid3.Coords) : BitVec 1 :=
  let arg1 : BitVec 32 := BitVec.ofNat 32 (i 1).val
  let c0_i32_45 : BitVec 32 := 0#32
  let v116 : BitVec 1 := Scalar.cmpi .ne arg1 c0_i32_45
  let v117 : BitVec 32 := Scalar.extui v116
  let c0_i32_46 : BitVec 32 := 0#32
  let v118 : BitVec 1 := Scalar.cmpi .ne v117 c0_i32_46
  v118

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x8192x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1x1x8192 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x1x8192 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x1x8192 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1x1x8192 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S1x128x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S1x1x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, false]
-- ==== ReferenceIdeal.lean ====
abbrev S4x8192x256 : Shape := ⟨3, ![4, 8192, 256]⟩
abbrev S4x8192x3 : Shape := ⟨3, ![4, 8192, 3]⟩
abbrev S8x8192x3 : Shape := ⟨3, ![8, 8192, 3]⟩
abbrev S8x8192x256 : Shape := ⟨3, ![8, 8192, 256]⟩
abbrev S_ : Shape := ⟨0, ![]⟩
abbrev S8x8192 : Shape := ⟨2, ![8, 8192]⟩
abbrev S8 : Shape := ⟨1, ![8]⟩
abbrev S8x1 : Shape := ⟨2, ![8, 1]⟩
abbrev S8x1x1 : Shape := ⟨3, ![8, 1, 1]⟩
abbrev S8x1x3 : Shape := ⟨3, ![8, 1, 3]⟩
abbrev S8x1x8192 : Shape := ⟨3, ![8, 1, 8192]⟩
abbrev S8x1x32 : Shape := ⟨3, ![8, 1, 32]⟩
abbrev S8x1x256 : Shape := ⟨3, ![8, 1, 256]⟩
abbrev S8x1x32x1 : Shape := ⟨4, ![8, 1, 32, 1]⟩
abbrev S8x1x32x256 : Shape := ⟨4, ![8, 1, 32, 256]⟩
abbrev S8x1x1x256 : Shape := ⟨4, ![8, 1, 1, 256]⟩
abbrev S8x1x33x256 : Shape := ⟨4, ![8, 1, 33, 256]⟩
abbrev S8x1x33 : Shape := ⟨3, ![8, 1, 33]⟩
abbrev S4x8192 : Shape := ⟨2, ![4, 8192]⟩
abbrev S4 : Shape := ⟨1, ![4]⟩
abbrev S1 : Shape := ⟨1, ![1]⟩

abbrev nBuf : Space → Nat
  | .hbm => 200
  | .vmem => 0
  | .smem => 0
  | _ => 0

abbrev hbmTy0_0 (i : Nat) : BufTy := match i % 128 with
  | 0 => ⟨S4x8192x256, .f32⟩
  | 1 => ⟨S4x8192x256, .f32⟩
  | 2 => ⟨S4x8192x3, .f32⟩
  | 3 => ⟨S4x8192x3, .f32⟩
  | 4 => ⟨S4x8192x3, .f32⟩
  | 5 => ⟨S8x8192x3, .f32⟩
  | 6 => ⟨S8x8192x256, .f32⟩
  | 7 => ⟨S_, .f32⟩
  | 8 => ⟨S8x8192, .f32⟩
  | 9 => ⟨S_, .i32⟩
  | 10 => ⟨S8, .i32⟩
  | 11 => ⟨S_, .f32⟩
  | 12 => ⟨S8, .f32⟩
  | 13 => ⟨S_, .i32⟩
  | 14 => ⟨S8x8192x3, .f32⟩
  | 15 => ⟨S8x8192x256, .f32⟩
  | 16 => ⟨S_, .i32⟩
  | 17 => ⟨S8x8192, .f32⟩
  | 18 => ⟨S8, .i32⟩
  | 19 => ⟨S8, .f32⟩
  | 20 => ⟨S_, .i32⟩
  | 21 => ⟨S_, .i1⟩
  | 22 => ⟨S8x1, .i32⟩
  | 23 => ⟨S_, .i32⟩
  | 24 => ⟨S8x1, .i32⟩
  | 25 => ⟨S8x1, .i1⟩
  | 26 => ⟨S_, .i32⟩
  | 27 => ⟨S8x1, .i32⟩
  | 28 => ⟨S8x1, .i32⟩
  | 29 => ⟨S8x1, .i32⟩
  | 30 => ⟨S8x1x1, .i32⟩
  | 31 => ⟨S8x1x3, .f32⟩
  | 32 => ⟨S8x1x3, .f32⟩
  | 33 => ⟨S_, .f32⟩
  | 34 => ⟨S8x1, .f32⟩
  | 35 => ⟨S8x1x1, .f32⟩
  | 36 => ⟨S8x8192x3, .f32⟩
  | 37 => ⟨S_, .f32⟩
  | 38 => ⟨S8x8192, .f32⟩
  | 39 => ⟨S8x1x8192, .f32⟩
  | 40 => ⟨S8x1x8192, .f32⟩
  | 41 => ⟨S8x1x8192, .f32⟩
  | 42 => ⟨S8x1x8192, .f32⟩
  | 43 => ⟨S_, .f32⟩
  | 44 => ⟨S8x1x8192, .f32⟩
  | 45 => ⟨S8x1x8192, .f32⟩
  | 46 => ⟨S8x1x8192, .f32⟩
  | 47 => ⟨S8x1x8192, .f32⟩
  | 48 => ⟨S8x1x32, .f32⟩
  | 49 => ⟨S8x1x32, .i32⟩
  | 50 => ⟨S8x1, .i32⟩
  | 51 => ⟨S_, .i32⟩
  | 52 => ⟨S8x1, .i32⟩
  | 53 => ⟨S8x1, .i1⟩
  | 54 => ⟨S_, .i32⟩
  | 55 => ⟨S8x1, .i32⟩
  | 56 => ⟨S8x1, .i32⟩
  | 57 => ⟨S8x1, .i32⟩
  | 58 => ⟨S8x1x1, .i32⟩
  | 59 => ⟨S8x1x256, .f32⟩
  | 60 => ⟨S_, .i32⟩
  | 61 => ⟨S8x1x32, .i32⟩
  | 62 => ⟨S8x1x32, .i1⟩
  | 63 => ⟨S_, .i32⟩
  | 64 => ⟨S8x1x32, .i32⟩
  | 65 => ⟨S8x1x32, .i32⟩
  | 66 => ⟨S8x1x32, .i32⟩
  | 67 => ⟨S8x1x32x1, .i32⟩
  | 68 => ⟨S8x1x32x256, .f32⟩
  | 69 => ⟨S8x1x1x256, .f32⟩
  | 70 => ⟨S8x1x33x256, .f32⟩
  | 71 => ⟨S_, .f32⟩
  | 72 => ⟨S8x1x256, .f32⟩
  | 73 => ⟨S_, .f32⟩
  | 74 => ⟨S8x1x256, .f32⟩
  | 75 => ⟨S8x1x256, .f32⟩
  | 76 => ⟨S8x1x33x256, .f32⟩
  | 77 => ⟨S_, .f32⟩
  | 78 => ⟨S8x1x33, .f32⟩
  | 79 => ⟨S8x1x33, .f32⟩
  | 80 => ⟨S8x1x256, .f32⟩
  | 81 => ⟨S_, .f32⟩
  | 82 => ⟨S8x1, .f32⟩
  | 83 => ⟨S8x1, .f32⟩
  | 84 => ⟨S8x1x1x256, .f32⟩
  | 85 => ⟨S8x1x33x256, .f32⟩
  | 86 => ⟨S8x1x33x256, .f32⟩
  | 87 => ⟨S_, .f32⟩
  | 88 => ⟨S8x1x33, .f32⟩
  | 89 => ⟨S8x1x1, .f32⟩
  | 90 => ⟨S8x1x33, .f32⟩
  | 91 => ⟨S8x1x33, .f32⟩
  | 92 => ⟨S_, .f32⟩
  | 93 => ⟨S8x1x33, .f32⟩
  | 94 => ⟨S8x1x33, .f32⟩
  | 95 => ⟨S8x1x33, .f32⟩
  | 96 => ⟨S_, .f32⟩
  | 97 => ⟨S8x1, .f32⟩
  | 98 => ⟨S_, .f32⟩
  | 99 => ⟨S8x1, .f32⟩
  | 100 => ⟨S8x1, .f32⟩
  | 101 => ⟨S8x1, .f32⟩
  | 102 => ⟨S8x1x33x256, .f32⟩
  | 103 => ⟨S_, .f32⟩
  | 104 => ⟨S8x1x33, .f32⟩
  | 105 => ⟨S_, .f32⟩
  | 106 => ⟨S8x1x33, .f32⟩
  | 107 => ⟨S8x1x33, .f32⟩
  | 108 => ⟨S8x1x33, .f32⟩
  | 109 => ⟨S_, .f32⟩
  | 110 => ⟨S8x1x33, .f32⟩
  | 111 => ⟨S8x1x33, .f32⟩
  | 112 => ⟨S_, .f32⟩
  | 113 => ⟨S8x1, .f32⟩
  | 114 => ⟨S_, .f32⟩
  | 115 => ⟨S8x1, .f32⟩
  | 116 => ⟨S8x1, .f32⟩
  | 117 => ⟨S_, .f32⟩
  | 118 => ⟨S8x1, .f32⟩
  | 119 => ⟨S8x1, .f32⟩
  | 120 => ⟨S_, .f32⟩
  | 121 => ⟨S8x1, .f32⟩
  | 122 => ⟨S8x1, .f32⟩
  | 123 => ⟨S8x1, .f32⟩
  | 124 => ⟨S8, .f32⟩
  | 125 => ⟨S8, .f32⟩
  | 126 => ⟨S8x8192x3, .f32⟩
  | 127 => ⟨S8x8192x3, .f32⟩
  | _ => ⟨S4x8192x256, .f32⟩

abbrev hbmTy0_1 (i : Nat) : BufTy := match i % 128 with
  | 0 => ⟨S8x8192x3, .f32⟩
  | 1 => ⟨S_, .f32⟩
  | 2 => ⟨S8x8192, .f32⟩
  | 3 => ⟨S8x8192, .f32⟩
  | 4 => ⟨S8x1, .f32⟩
  | 5 => ⟨S8x1, .i32⟩
  | 6 => ⟨S8, .i32⟩
  | 7 => ⟨S_, .i32⟩
  | 8 => ⟨S_, .i32⟩
  | 9 => ⟨S4x8192x256, .f32⟩
  | 10 => ⟨S_, .f32⟩
  | 11 => ⟨S4x8192, .f32⟩
  | 12 => ⟨S4x8192x256, .f32⟩
  | 13 => ⟨S_, .f32⟩
  | 14 => ⟨S4x8192, .f32⟩
  | 15 => ⟨S4x8192, .f32⟩
  | 16 => ⟨S4x8192x256, .f32⟩
  | 17 => ⟨S_, .f32⟩
  | 18 => ⟨S4x8192, .f32⟩
  | 19 => ⟨S4x8192, .f32⟩
  | 20 => ⟨S4x8192, .f32⟩
  | 21 => ⟨S_, .f32⟩
  | 22 => ⟨S4x8192, .f32⟩
  | 23 => ⟨S4x8192, .f32⟩
  | 24 => ⟨S4x8192, .f32⟩
  | 25 => ⟨S_, .f32⟩
  | 26 => ⟨S4, .f32⟩
  | 27 => ⟨S_, .f32⟩
  | 28 => ⟨S4, .f32⟩
  | 29 => ⟨S4, .f32⟩
  | 30 => ⟨S_, .f32⟩
  | 31 => ⟨S_, .f32⟩
  | 32 => ⟨S_, .f32⟩
  | 33 => ⟨S_, .f32⟩
  | 34 => ⟨S_, .f32⟩
  | 35 => ⟨S1, .f32⟩
  | 36 => ⟨S_, .f32⟩
  | 37 => ⟨S1, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S1, .f32⟩
  | 45 => ⟨S_, .f32⟩
  | 46 => ⟨S1, .f32⟩
  | 47 => ⟨S_, .f32⟩
  | 48 => ⟨S_, .f32⟩
  | 49 => ⟨S_, .f32⟩
  | 50 => ⟨S_, .f32⟩
  | 51 => ⟨S_, .f32⟩
  | 52 => ⟨S1, .f32⟩
  | 53 => ⟨S_, .f32⟩
  | 54 => ⟨S1, .f32⟩
  | 55 => ⟨S_, .f32⟩
  | 56 => ⟨S_, .f32⟩
  | 57 => ⟨S_, .f32⟩
  | 58 => ⟨S_, .f32⟩
  | 59 => ⟨S_, .f32⟩
  | 60 => ⟨S1, .f32⟩
  | 61 => ⟨S_, .f32⟩
  | 62 => ⟨S1, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | _ => ⟨S4x8192x256, .f32⟩

abbrev hbmTy (i : Nat) : BufTy := match i / 128 with
  | 0 => hbmTy0_0 i
  | 1 => hbmTy0_1 i
  | _ => ⟨S4x8192x256, .f32⟩

abbrev bufTy : (tb : Table) → Fin (tcTables nBuf tb) → BufTy
  | .hbm, ⟨i, _⟩ => hbmTy i
  | _, _ => ⟨S4x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_c_1 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev main_v5_5 : Ref sig .tc := ⟨.hbm, 19, rfl⟩
abbrev main_while0c_c_19 : Ref sig .tc := ⟨.hbm, 20, rfl⟩
abbrev main_while0c_v51 : Ref sig .tc := ⟨.hbm, 21, rfl⟩
abbrev main_while0b_v51 : Ref sig .tc := ⟨.hbm, 22, rfl⟩
abbrev main_while0b_c_19 : Ref sig .tc := ⟨.hbm, 23, rfl⟩
abbrev main_while0b_v52 : Ref sig .tc := ⟨.hbm, 24, rfl⟩
abbrev main_while0b_v53 : Ref sig .tc := ⟨.hbm, 25, rfl⟩
abbrev main_while0b_c_20 : Ref sig .tc := ⟨.hbm, 26, rfl⟩
abbrev main_while0b_v54 : Ref sig .tc := ⟨.hbm, 27, rfl⟩
abbrev main_while0b_v55 : Ref sig .tc := ⟨.hbm, 28, rfl⟩
abbrev main_while0b_v56 : Ref sig .tc := ⟨.hbm, 29, rfl⟩
abbrev main_while0b_v57 : Ref sig .tc := ⟨.hbm, 30, rfl⟩
abbrev main_while0b_v58 : Ref sig .tc := ⟨.hbm, 31, rfl⟩
abbrev main_while0b_v59 : Ref sig .tc := ⟨.hbm, 32, rfl⟩
abbrev main_while0b_cst_21 : Ref sig .tc := ⟨.hbm, 33, rfl⟩
abbrev main_while0b_v60 : Ref sig .tc := ⟨.hbm, 34, rfl⟩
abbrev main_while0b_v61 : Ref sig .tc := ⟨.hbm, 35, rfl⟩
abbrev main_while0b_v62 : Ref sig .tc := ⟨.hbm, 36, rfl⟩
abbrev main_while0b_cst_22 : Ref sig .tc := ⟨.hbm, 37, rfl⟩
abbrev main_while0b_v63 : Ref sig .tc := ⟨.hbm, 38, rfl⟩
abbrev main_while0b_v64 : Ref sig .tc := ⟨.hbm, 39, rfl⟩
abbrev main_while0b_v65 : Ref sig .tc := ⟨.hbm, 40, rfl⟩
abbrev main_while0b_v66 : Ref sig .tc := ⟨.hbm, 41, rfl⟩
abbrev main_while0b_v67 : Ref sig .tc := ⟨.hbm, 42, rfl⟩
abbrev main_while0b_cst_23 : Ref sig .tc := ⟨.hbm, 43, rfl⟩
abbrev main_while0b_v68 : Ref sig .tc := ⟨.hbm, 44, rfl⟩
abbrev main_while0b_v69 : Ref sig .tc := ⟨.hbm, 45, rfl⟩
abbrev main_while0b_v70 : Ref sig .tc := ⟨.hbm, 46, rfl⟩
abbrev main_while0b_v71 : Ref sig .tc := ⟨.hbm, 47, rfl⟩
abbrev main_while0b_values : Ref sig .tc := ⟨.hbm, 48, rfl⟩
abbrev main_while0b_indices : Ref sig .tc := ⟨.hbm, 49, rfl⟩
abbrev main_while0b_v72 : Ref sig .tc := ⟨.hbm, 50, rfl⟩
abbrev main_while0b_c_24 : Ref sig .tc := ⟨.hbm, 51, rfl⟩
abbrev main_while0b_v73 : Ref sig .tc := ⟨.hbm, 52, rfl⟩
abbrev main_while0b_v74 : Ref sig .tc := ⟨.hbm, 53, rfl⟩
abbrev main_while0b_c_25 : Ref sig .tc := ⟨.hbm, 54, rfl⟩
abbrev main_while0b_v75 : Ref sig .tc := ⟨.hbm, 55, rfl⟩
abbrev main_while0b_v76 : Ref sig .tc := ⟨.hbm, 56, rfl⟩
abbrev main_while0b_v77 : Ref sig .tc := ⟨.hbm, 57, rfl⟩
abbrev main_while0b_v78 : Ref sig .tc := ⟨.hbm, 58, rfl⟩
abbrev main_while0b_v79 : Ref sig .tc := ⟨.hbm, 59, rfl⟩
abbrev main_while0b_c_26 : Ref sig .tc := ⟨.hbm, 60, rfl⟩
abbrev main_while0b_v80 : Ref sig .tc := ⟨.hbm, 61, rfl⟩
abbrev main_while0b_v81 : Ref sig .tc := ⟨.hbm, 62, rfl⟩
abbrev main_while0b_c_27 : Ref sig .tc := ⟨.hbm, 63, rfl⟩
abbrev main_while0b_v82 : Ref sig .tc := ⟨.hbm, 64, rfl⟩
abbrev main_while0b_v83 : Ref sig .tc := ⟨.hbm, 65, rfl⟩
abbrev main_while0b_v84 : Ref sig .tc := ⟨.hbm, 66, rfl⟩
abbrev main_while0b_v85 : Ref sig .tc := ⟨.hbm, 67, rfl⟩
abbrev main_while0b_v86 : Ref sig .tc := ⟨.hbm, 68, rfl⟩
abbrev main_while0b_v87 : Ref sig .tc := ⟨.hbm, 69, rfl⟩
abbrev main_while0b_v88 : Ref sig .tc := ⟨.hbm, 70, rfl⟩
abbrev main_while0b_cst_28 : Ref sig .tc := ⟨.hbm, 71, rfl⟩
abbrev main_while0b_v89 : Ref sig .tc := ⟨.hbm, 72, rfl⟩
abbrev main_while0b_cst_29 : Ref sig .tc := ⟨.hbm, 73, rfl⟩
abbrev main_while0b_v90 : Ref sig .tc := ⟨.hbm, 74, rfl⟩
abbrev main_while0b_v91 : Ref sig .tc := ⟨.hbm, 75, rfl⟩
abbrev main_while0b_call0_v0 : Ref sig .tc := ⟨.hbm, 76, rfl⟩
abbrev main_while0b_call0_cst : Ref sig .tc := ⟨.hbm, 77, rfl⟩
abbrev main_while0b_call0_v1 : Ref sig .tc := ⟨.hbm, 78, rfl⟩
abbrev main_while0b_v92 : Ref sig .tc := ⟨.hbm, 79, rfl⟩
abbrev main_while0b_call1_v0 : Ref sig .tc := ⟨.hbm, 80, rfl⟩
abbrev main_while0b_call1_cst : Ref sig .tc := ⟨.hbm, 81, rfl⟩
abbrev main_while0b_call1_v1 : Ref sig .tc := ⟨.hbm, 82, rfl⟩
abbrev main_while0b_v93 : Ref sig .tc := ⟨.hbm, 83, rfl⟩
abbrev main_while0b_v94 : Ref sig .tc := ⟨.hbm, 84, rfl⟩
abbrev main_while0b_v95 : Ref sig .tc := ⟨.hbm, 85, rfl⟩
abbrev main_while0b_v96 : Ref sig .tc := ⟨.hbm, 86, rfl⟩
abbrev main_while0b_cst_30 : Ref sig .tc := ⟨.hbm, 87, rfl⟩
abbrev main_while0b_v97 : Ref sig .tc := ⟨.hbm, 88, rfl⟩
abbrev main_while0b_v98 : Ref sig .tc := ⟨.hbm, 89, rfl⟩
abbrev main_while0b_v99 : Ref sig .tc := ⟨.hbm, 90, rfl⟩
abbrev main_while0b_v100 : Ref sig .tc := ⟨.hbm, 91, rfl⟩
abbrev main_while0b_cst_31 : Ref sig .tc := ⟨.hbm, 92, rfl⟩
abbrev main_while0b_v101 : Ref sig .tc := ⟨.hbm, 93, rfl⟩
abbrev main_while0b_v102 : Ref sig .tc := ⟨.hbm, 94, rfl⟩
abbrev main_while0b_v103 : Ref sig .tc := ⟨.hbm, 95, rfl⟩
abbrev main_while0b_cst_32 : Ref sig .tc := ⟨.hbm, 96, rfl⟩
abbrev main_while0b_v104 : Ref sig .tc := ⟨.hbm, 97, rfl⟩
abbrev main_while0b_cst_33 : Ref sig .tc := ⟨.hbm, 98, rfl⟩
abbrev main_while0b_v105 : Ref sig .tc := ⟨.hbm, 99, rfl⟩
abbrev main_while0b_v106 : Ref sig .tc := ⟨.hbm, 100, rfl⟩
abbrev main_while0b_v107 : Ref sig .tc := ⟨.hbm, 101, rfl⟩
abbrev main_while0b_v108 : Ref sig .tc := ⟨.hbm, 102, rfl⟩
abbrev main_while0b_cst_34 : Ref sig .tc := ⟨.hbm, 103, rfl⟩
abbrev main_while0b_v109 : Ref sig .tc := ⟨.hbm, 104, rfl⟩
abbrev main_while0b_cst_35 : Ref sig .tc := ⟨.hbm, 105, rfl⟩
abbrev main_while0b_v110 : Ref sig .tc := ⟨.hbm, 106, rfl⟩
abbrev main_while0b_v111 : Ref sig .tc := ⟨.hbm, 107, rfl⟩
abbrev main_while0b_v112 : Ref sig .tc := ⟨.hbm, 108, rfl⟩
abbrev main_while0b_cst_36 : Ref sig .tc := ⟨.hbm, 109, rfl⟩
abbrev main_while0b_v113 : Ref sig .tc := ⟨.hbm, 110, rfl⟩
abbrev main_while0b_v114 : Ref sig .tc := ⟨.hbm, 111, rfl⟩
abbrev main_while0b_cst_37 : Ref sig .tc := ⟨.hbm, 112, rfl⟩
abbrev main_while0b_v115 : Ref sig .tc := ⟨.hbm, 113, rfl⟩
abbrev main_while0b_cst_38 : Ref sig .tc := ⟨.hbm, 114, rfl⟩
abbrev main_while0b_v116 : Ref sig .tc := ⟨.hbm, 115, rfl⟩
abbrev main_while0b_v117 : Ref sig .tc := ⟨.hbm, 116, rfl⟩
abbrev main_while0b_cst_39 : Ref sig .tc := ⟨.hbm, 117, rfl⟩
abbrev main_while0b_v118 : Ref sig .tc := ⟨.hbm, 118, rfl⟩
abbrev main_while0b_v119 : Ref sig .tc := ⟨.hbm, 119, rfl⟩
abbrev main_while0b_cst_40 : Ref sig .tc := ⟨.hbm, 120, rfl⟩
abbrev main_while0b_v120 : Ref sig .tc := ⟨.hbm, 121, rfl⟩
abbrev main_while0b_v121 : Ref sig .tc := ⟨.hbm, 122, rfl⟩
abbrev main_while0b_v122 : Ref sig .tc := ⟨.hbm, 123, rfl⟩
abbrev main_while0b_v123 : Ref sig .tc := ⟨.hbm, 124, rfl⟩
abbrev main_while0b_v124 : Ref sig .tc := ⟨.hbm, 125, rfl⟩
abbrev main_while0b_v125 : Ref sig .tc := ⟨.hbm, 126, rfl⟩
abbrev main_while0b_v126 : Ref sig .tc := ⟨.hbm, 127, rfl⟩
abbrev main_while0b_v127 : Ref sig .tc := ⟨.hbm, 128, rfl⟩
abbrev main_while0b_cst_41 : Ref sig .tc := ⟨.hbm, 129, rfl⟩
abbrev main_while0b_v128 : Ref sig .tc := ⟨.hbm, 130, rfl⟩
abbrev main_while0b_v129 : Ref sig .tc := ⟨.hbm, 131, rfl⟩
abbrev main_while0b_values_42 : Ref sig .tc := ⟨.hbm, 132, rfl⟩
abbrev main_while0b_indices_43 : Ref sig .tc := ⟨.hbm, 133, rfl⟩
abbrev main_while0b_v130 : Ref sig .tc := ⟨.hbm, 134, rfl⟩
abbrev main_while0b_c_44 : Ref sig .tc := ⟨.hbm, 135, rfl⟩
abbrev main_while0b_v131 : Ref sig .tc := ⟨.hbm, 136, rfl⟩
abbrev main_v6 : Ref sig .tc := ⟨.hbm, 137, rfl⟩
abbrev main_cst_2 : Ref sig .tc := ⟨.hbm, 138, rfl⟩
abbrev main_v7 : Ref sig .tc := ⟨.hbm, 139, rfl⟩
abbrev main_call2_v0 : Ref sig .tc := ⟨.hbm, 140, rfl⟩
abbrev main_call2_cst : Ref sig .tc := ⟨.hbm, 141, rfl⟩
abbrev main_call2_v1 : Ref sig .tc := ⟨.hbm, 142, rfl⟩
abbrev main_v8 : Ref sig .tc := ⟨.hbm, 143, rfl⟩
abbrev main_call3_v0 : Ref sig .tc := ⟨.hbm, 144, rfl⟩
abbrev main_call3_cst : Ref sig .tc := ⟨.hbm, 145, rfl⟩
abbrev main_call3_v1 : Ref sig .tc := ⟨.hbm, 146, rfl⟩
abbrev main_v9 : Ref sig .tc := ⟨.hbm, 147, rfl⟩
abbrev main_v10 : Ref sig .tc := ⟨.hbm, 148, rfl⟩
abbrev main_cst_3 : Ref sig .tc := ⟨.hbm, 149, rfl⟩
abbrev main_v11 : Ref sig .tc := ⟨.hbm, 150, rfl⟩
abbrev main_v12 : Ref sig .tc := ⟨.hbm, 151, rfl⟩
abbrev main_v13 : Ref sig .tc := ⟨.hbm, 152, rfl⟩
abbrev main_cst_4 : Ref sig .tc := ⟨.hbm, 153, rfl⟩
abbrev main_v14 : Ref sig .tc := ⟨.hbm, 154, rfl⟩
abbrev main_cst_5 : Ref sig .tc := ⟨.hbm, 155, rfl⟩
abbrev main_v15 : Ref sig .tc := ⟨.hbm, 156, rfl⟩
abbrev main_v16 : Ref sig .tc := ⟨.hbm, 157, rfl⟩
abbrev main_cst_6 : Ref sig .tc := ⟨.hbm, 158, rfl⟩
abbrev main_v17 : Ref sig .tc := ⟨.hbm, 159, rfl⟩
abbrev main_cst_7 : Ref sig .tc := ⟨.hbm, 160, rfl⟩
abbrev main_v18 : Ref sig .tc := ⟨.hbm, 161, rfl⟩
abbrev main_v19 : Ref sig .tc := ⟨.hbm, 162, rfl⟩
abbrev main_v20 : Ref sig .tc := ⟨.hbm, 163, rfl⟩
abbrev main_v21 : Ref sig .tc := ⟨.hbm, 164, rfl⟩
abbrev main_v22 : Ref sig .tc := ⟨.hbm, 165, rfl⟩
abbrev main_v23 : Ref sig .tc := ⟨.hbm, 166, rfl⟩
abbrev main_v24 : Ref sig .tc := ⟨.hbm, 167, rfl⟩
abbrev main_cst_8 : Ref sig .tc := ⟨.hbm, 168, rfl⟩
abbrev main_v25 : Ref sig .tc := ⟨.hbm, 169, rfl⟩
abbrev main_cst_9 : Ref sig .tc := ⟨.hbm, 170, rfl⟩
abbrev main_v26 : Ref sig .tc := ⟨.hbm, 171, rfl⟩
abbrev main_v27 : Ref sig .tc := ⟨.hbm, 172, rfl⟩
abbrev main_v28 : Ref sig .tc := ⟨.hbm, 173, rfl⟩
abbrev main_v29 : Ref sig .tc := ⟨.hbm, 174, rfl⟩
abbrev main_v30 : Ref sig .tc := ⟨.hbm, 175, rfl⟩
abbrev main_v31 : Ref sig .tc := ⟨.hbm, 176, rfl⟩
abbrev main_v32 : Ref sig .tc := ⟨.hbm, 177, rfl⟩
abbrev main_cst_10 : Ref sig .tc := ⟨.hbm, 178, rfl⟩
abbrev main_v33 : Ref sig .tc := ⟨.hbm, 179, rfl⟩
abbrev main_v34 : Ref sig .tc := ⟨.hbm, 180, rfl⟩
abbrev main_v35 : Ref sig .tc := ⟨.hbm, 181, rfl⟩
abbrev main_v36 : Ref sig .tc := ⟨.hbm, 182, rfl⟩
abbrev main_v37 : Ref sig .tc := ⟨.hbm, 183, rfl⟩
abbrev main_v38 : Ref sig .tc := ⟨.hbm, 184, rfl⟩
abbrev main_v39 : Ref sig .tc := ⟨.hbm, 185, rfl⟩
abbrev main_cst_11 : Ref sig .tc := ⟨.hbm, 186, rfl⟩
abbrev main_v40 : Ref sig .tc := ⟨.hbm, 187, rfl⟩
abbrev main_v41 : Ref sig .tc := ⟨.hbm, 188, rfl⟩
abbrev main_v42 : Ref sig .tc := ⟨.hbm, 189, rfl⟩
abbrev main_v43 : Ref sig .tc := ⟨.hbm, 190, rfl⟩
abbrev main_v44 : Ref sig .tc := ⟨.hbm, 191, rfl⟩
abbrev main_v45 : Ref sig .tc := ⟨.hbm, 192, rfl⟩
abbrev main_v46 : Ref sig .tc := ⟨.hbm, 193, rfl⟩
abbrev main_cst_12 : Ref sig .tc := ⟨.hbm, 194, rfl⟩
abbrev main_v47 : Ref sig .tc := ⟨.hbm, 195, rfl⟩
abbrev main_cst_13 : Ref sig .tc := ⟨.hbm, 196, rfl⟩
abbrev main_v48 : Ref sig .tc := ⟨.hbm, 197, rfl⟩
abbrev main_v49 : Ref sig .tc := ⟨.hbm, 198, rfl⟩
abbrev main_v50 : Ref sig .tc := ⟨.hbm, 199, rfl⟩

abbrev nD : Nat := 1
abbrev τ : Topo := Topo.v7x

variable {F : FTy → Type} [FloatOps F]

abbrev main_while0_count : Scf.Loop 32 := ⟨0#32, 512#32, 1#32⟩
-- ==== Proof.Stats.lean ====
/- The first call (squared norms and the sum of cosines): what each grid point leaves, for any entry contents. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev cond0_0 (i : grid0.Coords) : Prop := k0_cond1 i = 1#1
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 32 = 0)

abbrev cond0_1 (i : grid0.Coords) : Prop := k0_cond2 i = 1#1
theorem hcond0_1 : ∀ t : Fin cfg0.N, cond0_1 (grid0.coords t) ↔ 1 ≤ t.val :=
  (by decide +kernel : ∀ t : Fin grid0.N, cond0_1 (grid0.coords t) ↔ 1 ≤ t.val)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
def freshTab0_2 : ℕ → Bool
  | 0 => true
  | n + 1 => (0x80000000 : ℕ).testBit n
theorem freshTab0_2_step : ∀ t : Fin cfg0.N,
    freshTab0_2 (t.val + 1) = ((cfg0.win 2).flush t || (cfg0.idle 2 (cfg0.grid.coords t) && freshTab0_2 t.val)) := by decide +kernel
theorem fresh0_2_eq (t : Fin cfg0.N) : cfg0.fresh 2 t.val = freshTab0_2 t.val :=
  Pipeline.Cfg.fresh_tab cfg0 2 freshTab0_2 rfl freshTab0_2_step t.val (Nat.le_of_lt t.isLt)
theorem liveAt0_2_A : ∀ t : Fin cfg0.N, cond0_0 (grid0.coords t) → ¬cond0_1 (grid0.coords t) → cfg0.idle 2 (grid0.coords t) = false := by decide +kernel
theorem liveAt0_2_B : ∀ t : Fin cfg0.N, ¬cond0_0 (grid0.coords t) → cond0_1 (grid0.coords t) → cfg0.idle 2 (grid0.coords t) = false := by decide +kernel
theorem notFresh0_2_B : ∀ t : Fin cfg0.N, ¬cond0_0 (grid0.coords t) → cond0_1 (grid0.coords t) → cfg0.fresh 2 t.val = false := by
  intro t; rw [fresh0_2_eq t]; revert t; decide +kernel

abbrev VO0_2 : View sig .tc .vmem S1x1x1 .f32 := (Memref.whole cc0_stg2_0 : Memref sig .tc .vmem S1x1x1 .f32).view
abbrev VO0_3 : View sig .tc .vmem S1x1024x1 .f32 := (Memref.whole cc0_stg3_0 : Memref sig .tc .vmem S1x1024x1 .f32).view
abbrev VO0_4 : View sig .tc .vmem S1x1024x1 .f32 := (Memref.whole cc0_stg4_0 : Memref sig .tc .vmem S1x1024x1 .f32).view
abbrev ms0_0 (t : Fin cfg0.N) : Memref sig .tc .vmem S1x1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x1 .f32 := win0_4.stage (cfg0.slots t 4)
abbrev hs0_4 (t : Fin cfg0.N) : (ms0_4 t).IsWhole := hstage0_4 ((cfg0.slots t 4).cast nbuf0_4)

set_option maxHeartbeats 1000000 in
/-- The pieces the body's stores leave in each output's buffer (last first), with the body's triple: from whole staging
    memrefs, the inputs at their contents, it runs and leaves the inputs as they were and the pieces written. -/
noncomputable def kernelRun0_A (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S1x1x1 .f32) (harg4 : arg4.IsWhole) (arg5 : Memref sig .tc .vmem S1x1024x1 .f32) (harg5 : arg5.IsWhole) (arg6 : Memref sig .tc .vmem S1x1024x1 .f32) (harg6 : arg6.IsWhole) (hc0 : cond0_0 i) (hc1 : ¬cond0_1 i)
    (x0 : Vec F S1x1024x256 .f32) (x1 : Vec F S1x1024x256 .f32) :
    Σ' (L2 : List (View.Piece (Elt F) S1x1x1 .f32)), Σ' (L3 : List (View.Piece (Elt F) S1x1024x1 .f32)), { L4 : List (View.Piece (Elt F) S1x1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0__stats_kernel i arg2 harg2 arg3 harg3 arg4 harg4 arg5 harg5 arg6 harg6) K } := by
  refine ⟨?_, ?_, ?_, fun E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg2.eq_unread hf0; obtain rfl := harg3.eq_unread hf1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact H4

set_option maxHeartbeats 1000000 in
/-- The pieces the body's stores leave in each output's buffer (last first), with the body's triple: from whole staging
    memrefs, the inputs at their contents, it runs and leaves the inputs as they were and the pieces written. -/
noncomputable def kernelRun0_B (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S1x1x1 .f32) (harg4 : arg4.IsWhole) (arg5 : Memref sig .tc .vmem S1x1024x1 .f32) (harg5 : arg5.IsWhole) (arg6 : Memref sig .tc .vmem S1x1024x1 .f32) (harg6 : arg6.IsWhole) (hc0 : ¬cond0_0 i) (hc1 : cond0_1 i)
    (x0 : Vec F S1x1024x256 .f32) (x1 : Vec F S1x1024x256 .f32) (xo2 : Vec F S1x1x1 .f32) :
    Σ' (L2 : List (View.Piece (Elt F) S1x1x1 .f32)), Σ' (L3 : List (View.Piece (Elt F) S1x1024x1 .f32)), { L4 : List (View.Piece (Elt F) S1x1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0__stats_kernel i arg2 harg2 arg3 harg3 arg4 harg4 arg5 harg5 arg6 harg6) K } := by
  refine ⟨?_, ?_, ?_, fun E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact H4

theorem cover0_A_2 (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S1x1x1 .f32) (harg4 : arg4.IsWhole) (arg5 : Memref sig .tc .vmem S1x1024x1 .f32) (harg5 : arg5.IsWhole) (arg6 : Memref sig .tc .vmem S1x1024x1 .f32) (harg6 : arg6.IsWhole) (hc0 : cond0_0 i) (hc1 : ¬cond0_1 i)
    (x0 : Vec F S1x1024x256 .f32) (x1 : Vec F S1x1024x256 .f32) (y : S1x1x1.Idx) :
    ∃ pc ∈ (kernelRun0_A c i arg2 harg2 arg3 harg3 arg4 harg4 arg5 harg5 arg6 harg6 hc0 hc1 x0 x1).1, y ∈ pc.1.set :=
  View.cover_of_tiledL (kernelRun0_A c i arg2 harg2 arg3 harg3 arg4 harg4 arg5 harg5 arg6 harg6 hc0 hc1 x0 x1).1 S1x1x1.size (by sl_kernel_rfl) y

def out0_A_2 (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S1x1x1 .f32) (harg4 : arg4.IsWhole) (arg5 : Memref sig .tc .vmem S1x1024x1 .f32) (harg5 : arg5.IsWhole) (arg6 : Memref sig .tc .vmem S1x1024x1 .f32) (harg6 : arg6.IsWhole) (hc0 : cond0_0 i) (hc1 : ¬cond0_1 i)
    (x0 : Vec F S1x1024x256 .f32) (x1 : Vec F S1x1024x256 .f32) : Vec F S1x1x1 .f32 :=
  VO0_2.read (Elt F) (VO0_2.writes (Elt F) VO0_2.junk (kernelRun0_A c i arg2 harg2 arg3 harg3 arg4 harg4 arg5 harg5 arg6 harg6 hc0 hc1 x0 x1).1)

theorem cover0_A_3 (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S1x1x1 .f32) (harg4 : arg4.IsWhole) (arg5 : Memref sig .tc .vmem S1x1024x1 .f32) (harg5 : arg5.IsWhole) (arg6 : Memref sig .tc .vmem S1x1024x1 .f32) (harg6 : arg6.IsWhole) (hc0 : cond0_0 i) (hc1 : ¬cond0_1 i)
    (x0 : Vec F S1x1024x256 .f32) (x1 : Vec F S1x1024x256 .f32) (y : S1x1024x1.Idx) :
    ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S1x1024x1.size (by sl_kernel_rfl) y

def out0_A_3 (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S1x1x1 .f32) (harg4 : arg4.IsWhole) (arg5 : Memref sig .tc .vmem S1x1024x1 .f32) (harg5 : arg5.IsWhole) (arg6 : Memref sig .tc .vmem S1x1024x1 .f32) (harg6 : arg6.IsWhole) (hc0 : cond0_0 i) (hc1 : ¬cond0_1 i)
    (x0 : Vec F S1x1024x256 .f32) (x1 : Vec F S1x1024x256 .f32) : Vec F S1x1024x1 .f32 :=
  VO0_3.read (Elt F) (VO0_3.writes (Elt F) VO0_3.junk (kernelRun0_A c i arg2 harg2 arg3 harg3 arg4 harg4 arg5 harg5 arg6 harg6 hc0 hc1 x0 x1).2.1)

theorem cover0_A_4 (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S1x1x1 .f32) (harg4 : arg4.IsWhole) (arg5 : Memref sig .tc .vmem S1x1024x1 .f32) (harg5 : arg5.IsWhole) (arg6 : Memref sig .tc .vmem S1x1024x1 .f32) (harg6 : arg6.IsWhole) (hc0 : cond0_0 i) (hc1 : ¬cond0_1 i)
    (x0 : Vec F S1x1024x256 .f32) (x1 : Vec F S1x1024x256 .f32) (y : S1x1024x1.Idx) :
    ∃ pc ∈ (kernelRun0_A c i arg2 harg2 arg3 harg3 arg4 harg4 arg5 harg5 arg6 harg6 hc0 hc1 x0 x1).2.2.1, y ∈ pc.1.set :=
  View.cover_of_tiledL (kernelRun0_A c i arg2 harg2 arg3 harg3 arg4 harg4 arg5 harg5 arg6 harg6 hc0 hc1 x0 x1).2.2.1 S1x1024x1.size (by sl_kernel_rfl) y

def out0_A_4 (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S1x1x1 .f32) (harg4 : arg4.IsWhole) (arg5 : Memref sig .tc .vmem S1x1024x1 .f32) (harg5 : arg5.IsWhole) (arg6 : Memref sig .tc .vmem S1x1024x1 .f32) (harg6 : arg6.IsWhole) (hc0 : cond0_0 i) (hc1 : ¬cond0_1 i)
    (x0 : Vec F S1x1024x256 .f32) (x1 : Vec F S1x1024x256 .f32) : Vec F S1x1024x1 .f32 :=
  VO0_4.read (Elt F) (VO0_4.writes (Elt F) VO0_4.junk (kernelRun0_A c i arg2 harg2 arg3 harg3 arg4 harg4 arg5 harg5 arg6 harg6 hc0 hc1 x0 x1).2.2.1)

theorem cover0_B_2 (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S1x1x1 .f32) (harg4 : arg4.IsWhole) (arg5 : Memref sig .tc .vmem S1x1024x1 .f32) (harg5 : arg5.IsWhole) (arg6 : Memref sig .tc .vmem S1x1024x1 .f32) (harg6 : arg6.IsWhole) (hc0 : ¬cond0_0 i) (hc1 : cond0_1 i)
    (x0 : Vec F S1x1024x256 .f32) (x1 : Vec F S1x1024x256 .f32) (xo2 : Vec F S1x1x1 .f32) (y : S1x1x1.Idx) :
    ∃ pc ∈ (kernelRun0_B c i arg2 harg2 arg3 harg3 arg4 harg4 arg5 harg5 arg6 harg6 hc0 hc1 x0 x1 xo2).1, y ∈ pc.1.set :=
  View.cover_of_tiledL (kernelRun0_B c i arg2 harg2 arg3 harg3 arg4 harg4 arg5 harg5 arg6 harg6 hc0 hc1 x0 x1 xo2).1 S1x1x1.size (by sl_kernel_rfl) y

def out0_B_2 (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S1x1x1 .f32) (harg4 : arg4.IsWhole) (arg5 : Memref sig .tc .vmem S1x1024x1 .f32) (harg5 : arg5.IsWhole) (arg6 : Memref sig .tc .vmem S1x1024x1 .f32) (harg6 : arg6.IsWhole) (hc0 : ¬cond0_0 i) (hc1 : cond0_1 i)
    (x0 : Vec F S1x1024x256 .f32) (x1 : Vec F S1x1024x256 .f32) (xo2 : Vec F S1x1x1 .f32) : Vec F S1x1x1 .f32 :=
  VO0_2.read (Elt F) (VO0_2.writes (Elt F) VO0_2.junk (kernelRun0_B c i arg2 harg2 arg3 harg3 arg4 harg4 arg5 harg5 arg6 harg6 hc0 hc1 x0 x1 xo2).1)

theorem cover0_B_3 (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S1x1x1 .f32) (harg4 : arg4.IsWhole) (arg5 : Memref sig .tc .vmem S1x1024x1 .f32) (harg5 : arg5.IsWhole) (arg6 : Memref sig .tc .vmem S1x1024x1 .f32) (harg6 : arg6.IsWhole) (hc0 : ¬cond0_0 i) (hc1 : cond0_1 i)
    (x0 : Vec F S1x1024x256 .f32) (x1 : Vec F S1x1024x256 .f32) (xo2 : Vec F S1x1x1 .f32) (y : S1x1024x1.Idx) :
    ∃ pc ∈ (kernelRun0_B c i arg2 harg2 arg3 harg3 arg4 harg4 arg5 harg5 arg6 harg6 hc0 hc1 x0 x1 xo2).2.1, y ∈ pc.1.set :=
  View.cover_of_tiledL (kernelRun0_B c i arg2 harg2 arg3 harg3 arg4 harg4 arg5 harg5 arg6 harg6 hc0 hc1 x0 x1 xo2).2.1 S1x1024x1.size (by sl_kernel_rfl) y

def out0_B_3 (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S1x1x1 .f32) (harg4 : arg4.IsWhole) (arg5 : Memref sig .tc .vmem S1x1024x1 .f32) (harg5 : arg5.IsWhole) (arg6 : Memref sig .tc .vmem S1x1024x1 .f32) (harg6 : arg6.IsWhole) (hc0 : ¬cond0_0 i) (hc1 : cond0_1 i)
    (x0 : Vec F S1x1024x256 .f32) (x1 : Vec F S1x1024x256 .f32) (xo2 : Vec F S1x1x1 .f32) : Vec F S1x1024x1 .f32 :=
  VO0_3.read (Elt F) (VO0_3.writes (Elt F) VO0_3.junk (kernelRun0_B c i arg2 harg2 arg3 harg3 arg4 harg4 arg5 harg5 arg6 harg6 hc0 hc1 x0 x1 xo2).2.1)

theorem cover0_B_4 (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S1x1x1 .f32) (harg4 : arg4.IsWhole) (arg5 : Memref sig .tc .vmem S1x1024x1 .f32) (harg5 : arg5.IsWhole) (arg6 : Memref sig .tc .vmem S1x1024x1 .f32) (harg6 : arg6.IsWhole) (hc0 : ¬cond0_0 i) (hc1 : cond0_1 i)
    (x0 : Vec F S1x1024x256 .f32) (x1 : Vec F S1x1024x256 .f32) (xo2 : Vec F S1x1x1 .f32) (y : S1x1024x1.Idx) :
    ∃ pc ∈ (kernelRun0_B c i arg2 harg2 arg3 harg3 arg4 harg4 arg5 harg5 arg6 harg6 hc0 hc1 x0 x1 xo2).2.2.1, y ∈ pc.1.set :=
  View.cover_of_tiledL (kernelRun0_B c i arg2 harg2 arg3 harg3 arg4 harg4 arg5 harg5 arg6 harg6 hc0 hc1 x0 x1 xo2).2.2.1 S1x1024x1.size (by sl_kernel_rfl) y

def out0_B_4 (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S1x1x1 .f32) (harg4 : arg4.IsWhole) (arg5 : Memref sig .tc .vmem S1x1024x1 .f32) (harg5 : arg5.IsWhole) (arg6 : Memref sig .tc .vmem S1x1024x1 .f32) (harg6 : arg6.IsWhole) (hc0 : ¬cond0_0 i) (hc1 : cond0_1 i)
    (x0 : Vec F S1x1024x256 .f32) (x1 : Vec F S1x1024x256 .f32) (xo2 : Vec F S1x1x1 .f32) : Vec F S1x1024x1 .f32 :=
  VO0_4.read (Elt F) (VO0_4.writes (Elt F) VO0_4.junk (kernelRun0_B c i arg2 harg2 arg3 harg3 arg4 harg4 arg5 harg5 arg6 harg6 hc0 hc1 x0 x1 xo2).2.2.1)

/-- What the outputs' staging buffers hold after the body at a point. -/
def outsAt0 (c : Dev nD) : (n : ℕ) → n < cfg0.N → Vec F S1x1x1 .f32 × Vec F S1x1024x1 .f32 × Vec F S1x1024x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩))
  | n + 1, hn =>
    if h0 : (n + 1) % 32 = 0 then
      if h1 : 1 ≤ (n + 1) then
        False.elim (by have hN : n + 1 < 32 := lt_of_lt_of_eq hn (show cfg0.N = 32 from N_0); omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (fun h => h1 ((hcond0_1 ⟨n + 1, hn⟩).mp h)) (iblk V c 0 ⟨n + 1, hn⟩) (iblk V c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (fun h => h1 ((hcond0_1 ⟨n + 1, hn⟩).mp h)) (iblk V c 0 ⟨n + 1, hn⟩) (iblk V c 1 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (fun h => h1 ((hcond0_1 ⟨n + 1, hn⟩).mp h)) (iblk V c 0 ⟨n + 1, hn⟩) (iblk V c 1 ⟨n + 1, hn⟩))
    else
      if h1 : 1 ≤ (n + 1) then
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) ((hcond0_1 ⟨n + 1, hn⟩).mpr h1) (iblk V c 0 ⟨n + 1, hn⟩) (iblk V c 1 ⟨n + 1, hn⟩) (outsAt0 c n (Nat.lt_of_succ_lt hn)).1, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) ((hcond0_1 ⟨n + 1, hn⟩).mpr h1) (iblk V c 0 ⟨n + 1, hn⟩) (iblk V c 1 ⟨n + 1, hn⟩) (outsAt0 c n (Nat.lt_of_succ_lt hn)).1, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) ((hcond0_1 ⟨n + 1, hn⟩).mpr h1) (iblk V c 0 ⟨n + 1, hn⟩) (iblk V c 1 ⟨n + 1, hn⟩) (outsAt0 c n (Nat.lt_of_succ_lt hn)).1)
      else
        False.elim (by have hN : n + 1 < 32 := lt_of_lt_of_eq hn (show cfg0.N = 32 from N_0); omega)

theorem outsAt0_A (c : Dev nD) (t : Fin cfg0.N) (h0 : t.val % 32 = 0) (h1 : ¬1 ≤ t.val) :
    outsAt0 V c t.val t.isLt = (out0_A_2 c (grid0.coords t) (ms0_0 t) (hs0_0 t) (ms0_1 t) (hs0_1 t) (ms0_2 t) (hs0_2 t) (ms0_3 t) (hs0_3 t) (ms0_4 t) (hs0_4 t) ((hcond0_0 t).mpr h0) (fun h => h1 ((hcond0_1 t).mp h)) (iblk V c 0 t) (iblk V c 1 t), out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (fun h => h1 ((hcond0_1 t).mp h)) (iblk V c 0 t) (iblk V c 1 t), out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (fun h => h1 ((hcond0_1 t).mp h)) (iblk V c 0 t) (iblk V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 32 = 0) (h1 : 1 ≤ t.val) :
    outsAt0 V c t.val t.isLt = (out0_B_2 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (iblk V c 0 t) (iblk V c 1 t) (outsAt0 V c (t.val - 1) (Nat.lt_of_le_of_lt (Nat.sub_le _ _) t.isLt)).1, out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (iblk V c 0 t) (iblk V c 1 t) (outsAt0 V c (t.val - 1) (Nat.lt_of_le_of_lt (Nat.sub_le _ _) t.isLt)).1, out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (iblk V c 0 t) (iblk V c 1 t) (outsAt0 V c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans ((dif_pos h1).trans rfl)

/-- The region's proof data on core `c`: arrays as found, inputs' buffers at their blocks, outputs' at `outsAt`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt0 V c t.val t.isLt).1
    | ⟨3, _⟩ => (outsAt0 V c t.val t.isLt).2.1
    | ⟨4, _⟩ => (outsAt0 V c t.val t.isLt).2.2
  Φ _ := Pipeline.ΦA spec0 c
  q _ := fullShare
  owed _ := 0

theorem A_eq (c : Dev nD) (w : Fin cfg0.W) : (dat V c).A w = V c (Pipeline.arrRef spec0 w) := by
  dsimp only [dat]

theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = (outsAt0 V c t.val t.isLt).1 := by dsimp only [dat]
theorem after0_3 (c : Dev nD) (t : Fin cfg0.N) : (dat V c).after 3 t = (outsAt0 V c t.val t.isLt).2.1 := by dsimp only [dat]
theorem after0_4 (c : Dev nD) (t : Fin cfg0.N) : (dat V c).after 4 t = (outsAt0 V c t.val t.isLt).2.2 := by dsimp only [dat]

theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d

theorem hcarry0_2 (c : Dev nD) : ∀ (t : Fin cfg0.N) (_ : t.val ≠ 0), cfg0.idle 2 (grid0.coords t) = true → cfg0.fresh 2 t.val = false →
    (dat V c).after 2 t = (dat V c).after 2 ⟨t.val - 1, by omega⟩ := by
  intro t _ hi _
  have hN : t.val < 32 := lt_of_lt_of_eq t.isLt (show cfg0.N = 32 from N_0)
  rw [after0_2, after0_2]
  by_cases h0 : t.val % 32 = 0
  · by_cases h1 : 1 ≤ t.val
    · exfalso; omega
    · rw [liveAt0_2_A t ((hcond0_0 t).mpr h0) (fun h => h1 ((hcond0_1 t).mp h))] at hi
      exact absurd hi Bool.false_ne_true
  · by_cases h1 : 1 ≤ t.val
    · rw [liveAt0_2_B t (fun h => h0 ((hcond0_0 t).mp h)) ((hcond0_1 t).mpr h1)] at hi
      exact absurd hi Bool.false_ne_true
    · exfalso; omega
theorem before0_2_B (c : Dev nD) (t : Fin cfg0.N) (h0 : ¬t.val % 32 = 0) (h1 : 1 ≤ t.val) (d) :
    (dat V c).before 2 t d = (outsAt0 V c (t.val - 1) (Nat.lt_of_le_of_lt (Nat.sub_le _ _) t.isLt)).1 := by
  rw [Dat.before_out_traj _ 2 rfl (fun _ _ => rfl) (hcarry0_2 V c) t.val t rfl d,
    if_neg (by rw [notFresh0_2_B t (fun h => h0 ((hcond0_0 t).mp h)) ((hcond0_1 t).mpr h1)]; exact Bool.false_ne_true)]
  dsimp only [dat]

def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat V c).Φ t.succ = (dat V c).Φ t.castSucc from rfl,
    show (dat V c).owesAt () t.succ = (dat V c).owesAt () t.castSucc from rfl]
  have hN : t.val < 32 := lt_of_lt_of_eq t.isLt (show cfg0.N = 32 from N_0)
  by_cases h0 : t.val % 32 = 0
  · by_cases h1 : 1 ≤ t.val
    · exfalso; omega
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [show (dat V c).leavesExact 2 t = owns (c : Thread nD τ) (ms0_2 t) fullShare ((dat V c).after 2 t) from by
      unfold Dat.leavesExact; rw [liveAt0_2_A t ((hcond0_0 t).mpr h0) (fun h => h1 ((hcond0_1 t).mp h))], after0_2]
      rw [show (dat V c).leavesExact 3 t = owns (c : Thread nD τ) (ms0_3 t) fullShare ((dat V c).after 3 t) from by
      unfold Dat.leavesExact; rw [liveAt0_3 t], after0_3]
      rw [show (dat V c).leavesExact 4 t = owns (c : Thread nD τ) (ms0_4 t) fullShare ((dat V c).after 4 t) from by
      unfold Dat.leavesExact; rw [liveAt0_4 t], after0_4]
      rw [outsAt0_A V c t h0 h1]
      unfold out0_A_2 out0_A_3 out0_A_4; (try dsimp only)
      iintro ⟨HΦ, Ho, ⟨%d0, H0⟩, ⟨%d1, H1⟩, ⟨%d2, H2⟩, ⟨%d3, H3⟩, ⟨%d4, H4⟩⟩
      iapply ((kernelRun0_A c (grid0.coords t) _ _ _ _ _ _ _ _ _ _ ((hcond0_0 t).mpr h0) (fun h => h1 ((hcond0_1 t).mp h)) (iblk V c 0 t) (iblk V c 1 t)).2.2.2 Set.univ _)
      isplitl [H0]; · iexact H0
      isplitl [H1]; · iexact H1
      isplitl [H2]; · iexists _; iexact H2
      isplitl [H3]; · iexists _; iexact H3
      isplitl [H4]; · iexists _; iexact H4
      iintro ⟨H0, H1, ⟨%e2, H2⟩, ⟨%e3, H3⟩, ⟨%e4, H4⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _ _ _)
      isplitl [H3]
      · unfold owns; iexists _; isplitr
        swap; · iexact H3
        ipureintro; exact View.read_writes_of_cover _ _ _ _ _ (cover0_A_3 c _ _ _ _ _ _ _ _ _ _ _ _ _ _ _)
      unfold owns; iexists _; isplitr
      swap; · iexact H4
      ipureintro; exact View.read_writes_of_cover _ _ _ _ _ (cover0_A_4 c _ _ _ _ _ _ _ _ _ _ _ _ _ _ _)
  · by_cases h1 : 1 ≤ t.val
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [show (dat V c).leavesExact 2 t = owns (c : Thread nD τ) (ms0_2 t) fullShare ((dat V c).after 2 t) from by
      unfold Dat.leavesExact; rw [liveAt0_2_B t (fun h => h0 ((hcond0_0 t).mp h)) ((hcond0_1 t).mpr h1)], after0_2]
      rw [show (dat V c).leavesExact 3 t = owns (c : Thread nD τ) (ms0_3 t) fullShare ((dat V c).after 3 t) from by
      unfold Dat.leavesExact; rw [liveAt0_3 t], after0_3]
      rw [show (dat V c).leavesExact 4 t = owns (c : Thread nD τ) (ms0_4 t) fullShare ((dat V c).after 4 t) from by
      unfold Dat.leavesExact; rw [liveAt0_4 t], after0_4]
      rw [outsAt0_B V c t h0 h1]
      simp only [before0_2_B V c t h0 h1]
      unfold out0_B_2 out0_B_3 out0_B_4; (try dsimp only)
      iintro ⟨HΦ, Ho, ⟨%d0, H0⟩, ⟨%d1, H1⟩, ⟨%d2, H2⟩, ⟨%d3, H3⟩, ⟨%d4, H4⟩⟩
      iapply ((kernelRun0_B c (grid0.coords t) _ _ _ _ _ _ _ _ _ _ (fun h => h0 ((hcond0_0 t).mp h)) ((hcond0_1 t).mpr h1) (iblk V c 0 t) (iblk V c 1 t) _).2.2.2 Set.univ _)
      isplitl [H0]; · iexact H0
      isplitl [H1]; · iexact H1
      isplitl [H2]; · iexact H2
      isplitl [H3]; · iexists _; iexact H3
      isplitl [H4]; · iexists _; iexact H4
      iintro ⟨H0, H1, ⟨%e2, H2⟩, ⟨%e3, H3⟩, ⟨%e4, H4⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _ _ _)
      isplitl [H3]
      · unfold owns; iexists _; isplitr
        swap; · iexact H3
        ipureintro; exact View.read_writes_of_cover _ _ _ _ _ (cover0_B_3 c _ _ _ _ _ _ _ _ _ _ _ _ _ _ _ _)
      unfold owns; iexists _; isplitr
      swap; · iexact H4
      ipureintro; exact View.read_writes_of_cover _ _ _ _ _ (cover0_B_4 c _ _ _ _ _ _ _ _ _ _ _ _ _ _ _ _)
    · exfalso; omega

theorem defs₀_row (t : Fin cfg0.N) :
    defs₀ (F := F) .tc cfg0.body (cfg0.bodyArgs t (cfg0.slots t)) = bodyAt0 t := by
  unfold defs₀; rw [Defs.onTc_tc]

/-- The body meets its obligation at every point. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.KernelIdeal.Stats

end
-- ==== Proof.Fps.lean ====
/- The second call (the sampling loop): what it leaves, for any entry contents. -/
module

public import proofs.«01_k».proof.Proof.Stats
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Fps

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

abbrev VO1_3 : View sig .tc .vmem S8x512 .f32 := (Memref.whole cc1_stg3_0 : Memref sig .tc .vmem S8x512 .f32).view
abbrev ms1_0 (t : Fin cfg1.N) : Memref sig .tc .vmem S8x8192 .f32 := win1_0.stage (cfg1.slots t 0)
abbrev hs1_0 (t : Fin cfg1.N) : (ms1_0 t).IsWhole := hstage1_0 0
abbrev ms1_1 (t : Fin cfg1.N) : Memref sig .tc .vmem S8x8192 .f32 := win1_1.stage (cfg1.slots t 1)
abbrev hs1_1 (t : Fin cfg1.N) : (ms1_1 t).IsWhole := hstage1_1 0
abbrev ms1_2 (t : Fin cfg1.N) : Memref sig .tc .vmem S8x8192 .f32 := win1_2.stage (cfg1.slots t 2)
abbrev hs1_2 (t : Fin cfg1.N) : (ms1_2 t).IsWhole := hstage1_2 0
abbrev ms1_3 (t : Fin cfg1.N) : Memref sig .tc .vmem S8x512 .f32 := win1_3.stage (cfg1.slots t 3)
abbrev hs1_3 (t : Fin cfg1.N) : (ms1_3 t).IsWhole := hstage1_3 0

set_option maxHeartbeats 1000000 in
/-- The pieces the body's stores leave in each output's buffer (last first), with the body's triple: from whole staging
    memrefs, the inputs at their contents, it runs and leaves the inputs as they were and the pieces written. -/
noncomputable def kernelRun1_A (c : Dev nD) (arg0 : Memref sig .tc .vmem S8x8192 .f32) (harg0 : arg0.IsWhole) (arg1 : Memref sig .tc .vmem S8x8192 .f32) (harg1 : arg1.IsWhole) (arg2 : Memref sig .tc .vmem S8x8192 .f32) (harg2 : arg2.IsWhole) (arg3 : Memref sig .tc .vmem S8x512 .f32) (harg3 : arg3.IsWhole)
    (x0 : Vec F S8x8192 .f32) (x1 : Vec F S8x8192 .f32) (x2 : Vec F S8x8192 .f32) :
    { L3 : List (View.Piece (Elt F) S8x512 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ (∃ d, owns (c : Thread nD τ) arg3 fullShare d)
            ∗ (iprop(owns (c : Thread nD τ) arg0 fullShare x0 ∗ owns (c : Thread nD τ) arg1 fullShare x1 ∗ owns (c : Thread nD τ) arg2 fullShare x2 ∗ (∃ f, arg3.view.loc (c : Thread nD τ) ↦[arg3.view.set]{fullShare} arg3.view.writes (Elt F) f L3)) -∗ K ⟨⟩))
          ⊢ wp frame (wpE (defs₀ (F := F)) Variants.none c none) E (cc1__fps_kernel arg0 harg0 arg1 harg1 arg2 harg2 arg3 harg3) K } := by
  refine ⟨?_, fun E K => ?run⟩
  case run =>
    simp only [cc1__fps_kernel_eq_skeleton]; unfold cc1__fps_kernel_skel
    unfold owns
    iintro ⟨⟨%f0, %hf0, H0⟩, ⟨%f1, %hf1, H1⟩, ⟨%f2, %hf2, H2⟩, ⟨%d3, %f3, -, H3⟩, Hk⟩
    obtain rfl := harg0.eq_unread hf0; obtain rfl := harg1.eq_unread hf1; obtain rfl := harg2.eq_unread hf2
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    iexists _; iexact H3

theorem cover1_A_3 (c : Dev nD) (arg0 : Memref sig .tc .vmem S8x8192 .f32) (harg0 : arg0.IsWhole) (arg1 : Memref sig .tc .vmem S8x8192 .f32) (harg1 : arg1.IsWhole) (arg2 : Memref sig .tc .vmem S8x8192 .f32) (harg2 : arg2.IsWhole) (arg3 : Memref sig .tc .vmem S8x512 .f32) (harg3 : arg3.IsWhole)
    (x0 : Vec F S8x8192 .f32) (x1 : Vec F S8x8192 .f32) (x2 : Vec F S8x8192 .f32) (y : S8x512.Idx) :
    ∃ pc ∈ (kernelRun1_A c arg0 harg0 arg1 harg1 arg2 harg2 arg3 harg3 x0 x1 x2).1, y ∈ pc.1.set :=
  View.cover_of_tiledL (kernelRun1_A c arg0 harg0 arg1 harg1 arg2 harg2 arg3 harg3 x0 x1 x2).1 S8x512.size (by sl_kernel_rfl) y

def out1_A_3 (c : Dev nD) (arg0 : Memref sig .tc .vmem S8x8192 .f32) (harg0 : arg0.IsWhole) (arg1 : Memref sig .tc .vmem S8x8192 .f32) (harg1 : arg1.IsWhole) (arg2 : Memref sig .tc .vmem S8x8192 .f32) (harg2 : arg2.IsWhole) (arg3 : Memref sig .tc .vmem S8x512 .f32) (harg3 : arg3.IsWhole)
    (x0 : Vec F S8x8192 .f32) (x1 : Vec F S8x8192 .f32) (x2 : Vec F S8x8192 .f32) : Vec F S8x512 .f32 :=
  VO1_3.read (Elt F) (VO1_3.writes (Elt F) VO1_3.junk (kernelRun1_A c arg0 harg0 arg1 harg1 arg2 harg2 arg3 harg3 x0 x1 x2).1)

/-- What the outputs' staging buffers hold after the body at a point. -/
def outsAt1 (c : Dev nD) (t : Fin cfg1.N) : Vec F S8x512 .f32 :=
  out1_A_3 c (ms1_0 t) (hs1_0 t) (ms1_1 t) (hs1_1 t) (ms1_2 t) (hs1_2 t) (ms1_3 t) (hs1_3 t) (iblk V c 0 t) (iblk V c 1 t) (iblk V c 2 t)

/-- The region's proof data on core `c`: arrays as found, inputs' buffers at their blocks, outputs' at `outsAt`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt1 V c t)
  Φ _ := Pipeline.ΦA spec1 c
  q _ := fullShare
  owed _ := 0

theorem A_eq (c : Dev nD) (w : Fin cfg1.W) : (dat V c).A w = V c (Pipeline.arrRef spec1 w) := by
  dsimp only [dat]

theorem after1_0 (c : Dev nD) (t : Fin cfg1.N) : (dat V c).after 0 t = iblk V c 0 t := by dsimp only [dat]
theorem after1_1 (c : Dev nD) (t : Fin cfg1.N) : (dat V c).after 1 t = iblk V c 1 t := by dsimp only [dat]
theorem after1_2 (c : Dev nD) (t : Fin cfg1.N) : (dat V c).after 2 t = iblk V c 2 t := by dsimp only [dat]
theorem after1_3 (c : Dev nD) (t : Fin cfg1.N) : (dat V c).after 3 t = (outsAt1 V c t) := by dsimp only [dat]

theorem before1_0 (c : Dev nD) (t : Fin cfg1.N) (d) : (dat V c).before 0 t d = iblk V c 0 t :=
  before1_0_of V (dat V c) (A_eq V c 0) (after1_0 V c) t d
theorem before1_1 (c : Dev nD) (t : Fin cfg1.N) (d) : (dat V c).before 1 t d = iblk V c 1 t :=
  before1_1_of V (dat V c) (A_eq V c 1) (after1_1 V c) t d
theorem before1_2 (c : Dev nD) (t : Fin cfg1.N) (d) : (dat V c).before 2 t d = iblk V c 2 t :=
  before1_2_of V (dat V c) (A_eq V c 2) (after1_2 V c) t d

def bodyPre (c : Dev nD) (t : Fin cfg1.N) : sProp 𝕄 :=
  iprop((dat V c).Φ t.castSucc ∗ (dat V c).owesAt () t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d))
    ∗ (∃ d, owns (c : Thread nD τ) (ms1_3 t) fullShare ((dat V c).before 3 t d)))

def bodyPost (c : Dev nD) (t : Fin cfg1.N) : sProp 𝕄 :=
  iprop((dat V c).Φ t.succ ∗ (dat V c).owesAt () t.succ
    ∗ owns (c : Thread nD τ) (ms1_0 t) fullShare ((dat V c).after 0 t)
    ∗ owns (c : Thread nD τ) (ms1_1 t) fullShare ((dat V c).after 1 t)
    ∗ owns (c : Thread nD τ) (ms1_2 t) fullShare ((dat V c).after 2 t)
    ∗ owns (c : Thread nD τ) (ms1_3 t) fullShare ((dat V c).after 3 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2]
  rw [show (dat V c).Φ t.succ = (dat V c).Φ t.castSucc from rfl,
    show (dat V c).owesAt () t.succ = (dat V c).owesAt () t.castSucc from rfl,
    after1_0, after1_1, after1_2, after1_3]
  unfold outsAt1
  unfold out1_A_3
  iintro ⟨HΦ, Ho, ⟨%d0, H0⟩, ⟨%d1, H1⟩, ⟨%d2, H2⟩, ⟨%d3, H3⟩⟩
  iapply ((kernelRun1_A c _ _ _ _ _ _ _ _ (iblk V c 0 t) (iblk V c 1 t) (iblk V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_A_3 c _ _ _ _ _ _ _ _ _ _ _)

theorem defs₀_row (t : Fin cfg1.N) :
    defs₀ (F := F) .tc cfg1.body (cfg1.bodyArgs t (cfg1.slots t)) = bodyAt1 t := by
  unfold defs₀; rw [Defs.onTc_tc]

/-- The body meets its obligation at every point. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

end Cert.KernelIdeal.Fps

end
-- ==== Proof.Group.lean ====
/- The third call (the group terms of the first cloud): what each grid point leaves, for any entry contents. -/
module

public import proofs.«01_k».proof.Proof.Fps
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Group

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

abbrev cond2_0 (i : grid2.Coords) : Prop := k2_cond1 i = 1#1
theorem hcond2_0 : ∀ t : Fin cfg2.N, cond2_0 (grid2.coords t) ↔ t.val % 4 = 0 :=
  (fun t => by
    have ht : t.val < 16 := Nat.lt_of_lt_of_eq t.isLt N_2
    have e0 : (grid2.coords t 0).val = t.val / 4 % 4 := Pipeline.Grid.coords_val t 0 (by decide) rfl
    have e1 : (grid2.coords t 1).val = t.val / 1 % 4 := Pipeline.Grid.coords_val t 1 (by decide) rfl
    simp only [cond2_0, k2_cond1, e0, e1]
    word_cmp
   : ∀ t : Fin grid2.N, cond2_0 (grid2.coords t) ↔ t.val % 4 = 0)

abbrev cond2_1 (i : grid2.Coords) : Prop := k2_cond2 i = 1#1
theorem hcond2_1 : ∀ t : Fin cfg2.N, cond2_1 (grid2.coords t) ↔ 1 ≤ t.val % 4 :=
  (fun t => by
    have ht : t.val < 16 := Nat.lt_of_lt_of_eq t.isLt N_2
    have e0 : (grid2.coords t 0).val = t.val / 4 % 4 := Pipeline.Grid.coords_val t 0 (by decide) rfl
    have e1 : (grid2.coords t 1).val = t.val / 1 % 4 := Pipeline.Grid.coords_val t 1 (by decide) rfl
    simp only [cond2_1, k2_cond2, e0, e1]
    word_cmp
   : ∀ t : Fin grid2.N, cond2_1 (grid2.coords t) ↔ 1 ≤ t.val % 4)

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl
def freshTab2_6 : ℕ → Bool
  | 0 => true
  | n + 1 => (0x8888 : ℕ).testBit n
theorem freshTab2_6_step : ∀ t : Fin cfg2.N,
    freshTab2_6 (t.val + 1) = ((cfg2.win 6).flush t || (cfg2.idle 6 (cfg2.grid.coords t) && freshTab2_6 t.val)) := by decide +kernel
theorem fresh2_6_eq (t : Fin cfg2.N) : cfg2.fresh 6 t.val = freshTab2_6 t.val :=
  Pipeline.Cfg.fresh_tab cfg2 6 freshTab2_6 rfl freshTab2_6_step t.val (Nat.le_of_lt t.isLt)
theorem liveAt2_6_A : ∀ t : Fin cfg2.N, cond2_0 (grid2.coords t) → ¬cond2_1 (grid2.coords t) → cfg2.idle 6 (grid2.coords t) = false := by decide +kernel
theorem liveAt2_6_B : ∀ t : Fin cfg2.N, ¬cond2_0 (grid2.coords t) → cond2_1 (grid2.coords t) → cfg2.idle 6 (grid2.coords t) = false := by decide +kernel
theorem notFresh2_6_B : ∀ t : Fin cfg2.N, ¬cond2_0 (grid2.coords t) → cond2_1 (grid2.coords t) → cfg2.fresh 6 t.val = false := by
  intro t; rw [fresh2_6_eq t]; revert t; decide +kernel

abbrev VO2_6 : View sig .tc .vmem S1x1x1 .f32 := (Memref.whole cc2_stg6_0 : Memref sig .tc .vmem S1x1x1 .f32).view
abbrev ms2_0 (t : Fin cfg2.N) : Memref sig .tc .vmem S1x8192x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x1x8192 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1x8192 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1x8192 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1x8192 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128x1 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x1x1 .f32 := win2_6.stage (cfg2.slots t 6)
abbrev hs2_6 (t : Fin cfg2.N) : (ms2_6 t).IsWhole := hstage2_6 ((cfg2.slots t 6).cast nbuf2_6)

set_option maxHeartbeats 1000000 in
/-- The pieces the body's stores leave in each output's buffer (last first), with the body's triple: from whole staging
    memrefs, the inputs at their contents, it runs and leaves the inputs as they were and the pieces written. -/
noncomputable def kernelRun2_A (c : Dev nD) (i : grid2.Coords) (arg2 : Memref sig .tc .vmem S1x8192x256 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S1x1x8192 .f32) (harg5 : arg5.IsWhole) (arg6 : Memref sig .tc .vmem S1x1x8192 .f32) (harg6 : arg6.IsWhole) (arg7 : Memref sig .tc .vmem S1x128x1 .f32) (harg7 : arg7.IsWhole) (arg8 : Memref sig .tc .vmem S1x1x1 .f32) (harg8 : arg8.IsWhole) (hc0 : cond2_0 i) (hc1 : ¬cond2_1 i)
    (x0 : Vec F S1x8192x256 .f32) (x1 : Vec F S1x1x8192 .f32) (x2 : Vec F S1x1x8192 .f32) (x3 : Vec F S1x1x8192 .f32) (x4 : Vec F S1x1x8192 .f32) (x5 : Vec F S1x128x1 .f32) :
    { L6 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)) -∗ K ⟨⟩))
          ⊢ wp frame (wpE (defs₀ (F := F)) Variants.none c none) E (cc2__group_kernel i arg2 harg2 arg3 harg3 arg4 harg4 arg5 harg5 arg6 harg6 arg7 harg7 arg8 harg8) K } := by
  refine ⟨?_, fun E K => ?run⟩
  case run =>
    simp only [cc2__group_kernel_eq_skeleton]; unfold cc2__group_kernel_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

set_option maxHeartbeats 1000000 in
/-- The pieces the body's stores leave in each output's buffer (last first), with the body's triple: from whole staging
    memrefs, the inputs at their contents, it runs and leaves the inputs as they were and the pieces written. -/
noncomputable def kernelRun2_B (c : Dev nD) (i : grid2.Coords) (arg2 : Memref sig .tc .vmem S1x8192x256 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S1x1x8192 .f32) (harg5 : arg5.IsWhole) (arg6 : Memref sig .tc .vmem S1x1x8192 .f32) (harg6 : arg6.IsWhole) (arg7 : Memref sig .tc .vmem S1x128x1 .f32) (harg7 : arg7.IsWhole) (arg8 : Memref sig .tc .vmem S1x1x1 .f32) (harg8 : arg8.IsWhole) (hc0 : ¬cond2_0 i) (hc1 : cond2_1 i)
    (x0 : Vec F S1x8192x256 .f32) (x1 : Vec F S1x1x8192 .f32) (x2 : Vec F S1x1x8192 .f32) (x3 : Vec F S1x1x8192 .f32) (x4 : Vec F S1x1x8192 .f32) (x5 : Vec F S1x128x1 .f32) (xo6 : Vec F S1x1x1 .f32) :
    { L6 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)) -∗ K ⟨⟩))
          ⊢ wp frame (wpE (defs₀ (F := F)) Variants.none c none) E (cc2__group_kernel i arg2 harg2 arg3 harg3 arg4 harg4 arg5 harg5 arg6 harg6 arg7 harg7 arg8 harg8) K } := by
  refine ⟨?_, fun E K => ?run⟩
  case run =>
    simp only [cc2__group_kernel_eq_skeleton]; unfold cc2__group_kernel_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

theorem cover2_A_6 (c : Dev nD) (i : grid2.Coords) (arg2 : Memref sig .tc .vmem S1x8192x256 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S1x1x8192 .f32) (harg5 : arg5.IsWhole) (arg6 : Memref sig .tc .vmem S1x1x8192 .f32) (harg6 : arg6.IsWhole) (arg7 : Memref sig .tc .vmem S1x128x1 .f32) (harg7 : arg7.IsWhole) (arg8 : Memref sig .tc .vmem S1x1x1 .f32) (harg8 : arg8.IsWhole) (hc0 : cond2_0 i) (hc1 : ¬cond2_1 i)
    (x0 : Vec F S1x8192x256 .f32) (x1 : Vec F S1x1x8192 .f32) (x2 : Vec F S1x1x8192 .f32) (x3 : Vec F S1x1x8192 .f32) (x4 : Vec F S1x1x8192 .f32) (x5 : Vec F S1x128x1 .f32) (y : S1x1x1.Idx) :
    ∃ pc ∈ (kernelRun2_A c i arg2 harg2 arg3 harg3 arg4 harg4 arg5 harg5 arg6 harg6 arg7 harg7 arg8 harg8 hc0 hc1 x0 x1 x2 x3 x4 x5).1, y ∈ pc.1.set :=
  View.cover_of_tiledL (kernelRun2_A c i arg2 harg2 arg3 harg3 arg4 harg4 arg5 harg5 arg6 harg6 arg7 harg7 arg8 harg8 hc0 hc1 x0 x1 x2 x3 x4 x5).1 S1x1x1.size (by sl_kernel_rfl) y

def out2_A_6 (c : Dev nD) (i : grid2.Coords) (arg2 : Memref sig .tc .vmem S1x8192x256 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S1x1x8192 .f32) (harg5 : arg5.IsWhole) (arg6 : Memref sig .tc .vmem S1x1x8192 .f32) (harg6 : arg6.IsWhole) (arg7 : Memref sig .tc .vmem S1x128x1 .f32) (harg7 : arg7.IsWhole) (arg8 : Memref sig .tc .vmem S1x1x1 .f32) (harg8 : arg8.IsWhole) (hc0 : cond2_0 i) (hc1 : ¬cond2_1 i)
    (x0 : Vec F S1x8192x256 .f32) (x1 : Vec F S1x1x8192 .f32) (x2 : Vec F S1x1x8192 .f32) (x3 : Vec F S1x1x8192 .f32) (x4 : Vec F S1x1x8192 .f32) (x5 : Vec F S1x128x1 .f32) : Vec F S1x1x1 .f32 :=
  VO2_6.read (Elt F) (VO2_6.writes (Elt F) VO2_6.junk (kernelRun2_A c i arg2 harg2 arg3 harg3 arg4 harg4 arg5 harg5 arg6 harg6 arg7 harg7 arg8 harg8 hc0 hc1 x0 x1 x2 x3 x4 x5).1)

theorem cover2_B_6 (c : Dev nD) (i : grid2.Coords) (arg2 : Memref sig .tc .vmem S1x8192x256 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S1x1x8192 .f32) (harg5 : arg5.IsWhole) (arg6 : Memref sig .tc .vmem S1x1x8192 .f32) (harg6 : arg6.IsWhole) (arg7 : Memref sig .tc .vmem S1x128x1 .f32) (harg7 : arg7.IsWhole) (arg8 : Memref sig .tc .vmem S1x1x1 .f32) (harg8 : arg8.IsWhole) (hc0 : ¬cond2_0 i) (hc1 : cond2_1 i)
    (x0 : Vec F S1x8192x256 .f32) (x1 : Vec F S1x1x8192 .f32) (x2 : Vec F S1x1x8192 .f32) (x3 : Vec F S1x1x8192 .f32) (x4 : Vec F S1x1x8192 .f32) (x5 : Vec F S1x128x1 .f32) (xo6 : Vec F S1x1x1 .f32) (y : S1x1x1.Idx) :
    ∃ pc ∈ (kernelRun2_B c i arg2 harg2 arg3 harg3 arg4 harg4 arg5 harg5 arg6 harg6 arg7 harg7 arg8 harg8 hc0 hc1 x0 x1 x2 x3 x4 x5 xo6).1, y ∈ pc.1.set :=
  View.cover_of_tiledL (kernelRun2_B c i arg2 harg2 arg3 harg3 arg4 harg4 arg5 harg5 arg6 harg6 arg7 harg7 arg8 harg8 hc0 hc1 x0 x1 x2 x3 x4 x5 xo6).1 S1x1x1.size (by sl_kernel_rfl) y

def out2_B_6 (c : Dev nD) (i : grid2.Coords) (arg2 : Memref sig .tc .vmem S1x8192x256 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S1x1x8192 .f32) (harg5 : arg5.IsWhole) (arg6 : Memref sig .tc .vmem S1x1x8192 .f32) (harg6 : arg6.IsWhole) (arg7 : Memref sig .tc .vmem S1x128x1 .f32) (harg7 : arg7.IsWhole) (arg8 : Memref sig .tc .vmem S1x1x1 .f32) (harg8 : arg8.IsWhole) (hc0 : ¬cond2_0 i) (hc1 : cond2_1 i)
    (x0 : Vec F S1x8192x256 .f32) (x1 : Vec F S1x1x8192 .f32) (x2 : Vec F S1x1x8192 .f32) (x3 : Vec F S1x1x8192 .f32) (x4 : Vec F S1x1x8192 .f32) (x5 : Vec F S1x128x1 .f32) (xo6 : Vec F S1x1x1 .f32) : Vec F S1x1x1 .f32 :=
  VO2_6.read (Elt F) (VO2_6.writes (Elt F) VO2_6.junk (kernelRun2_B c i arg2 harg2 arg3 harg3 arg4 harg4 arg5 harg5 arg6 harg6 arg7 harg7 arg8 harg8 hc0 hc1 x0 x1 x2 x3 x4 x5 xo6).1)

/-- What the outputs' staging buffers hold after the body at a point. -/
def outsAt2 (c : Dev nD) : (n : ℕ) → n < cfg2.N → Vec F S1x1x1 .f32
  | 0, hn => out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) ((hcond2_0 ⟨0, hn⟩).mpr (Nat.zero_mod _)) (fun h => (fun h => by (try dsimp only at h); omega) ((hcond2_1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩)
  | n + 1, hn =>
    if h0 : (n + 1) % 4 = 0 then
      if h1 : 1 ≤ (n + 1) % 4 then
        False.elim (by have hN : n + 1 < 16 := lt_of_lt_of_eq hn (show cfg2.N = 16 from N_2); omega)
      else
        out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) ((hcond2_0 ⟨n + 1, hn⟩).mpr h0) (fun h => h1 ((hcond2_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩)
    else
      if h1 : 1 ≤ (n + 1) % 4 then
        out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (fun h => h0 ((hcond2_0 ⟨n + 1, hn⟩).mp h)) ((hcond2_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt2 c n (Nat.lt_of_succ_lt hn))
      else
        False.elim (by have hN : n + 1 < 16 := lt_of_lt_of_eq hn (show cfg2.N = 16 from N_2); omega)

theorem outsAt0_A (c : Dev nD) (t : Fin cfg2.N) (h0 : t.val % 4 = 0) (h1 : ¬1 ≤ t.val % 4) :
    outsAt2 V c t.val t.isLt = out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (fun h => h1 ((hcond2_1 t).mp h)) (iblk V c 0 t) (iblk V c 1 t) (iblk V c 2 t) (iblk V c 3 t) (iblk V c 4 t) (iblk V c 5 t) := by
  obtain ⟨n, hn⟩ := t
  cases n with
  | zero => exact rfl
  | succ n => exact (dif_pos h0).trans ((dif_neg h1).trans rfl)

theorem outsAt0_B (c : Dev nD) (t : Fin cfg2.N) (h0 : ¬t.val % 4 = 0) (h1 : 1 ≤ t.val % 4) :
    outsAt2 V c t.val t.isLt = out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) ((hcond2_1 t).mpr h1) (iblk V c 0 t) (iblk V c 1 t) (iblk V c 2 t) (iblk V c 3 t) (iblk V c 4 t) (iblk V c 5 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The region's proof data on core `c`: arrays as found, inputs' buffers at their blocks, outputs' at `outsAt`. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt2 V c t.val t.isLt)
  Φ _ := Pipeline.ΦA spec2 c
  q _ := fullShare
  owed _ := 0

theorem A_eq (c : Dev nD) (w : Fin cfg2.W) : (dat V c).A w = V c (Pipeline.arrRef spec2 w) := by
  dsimp only [dat]

theorem after2_0 (c : Dev nD) (t : Fin cfg2.N) : (dat V c).after 0 t = iblk V c 0 t := by dsimp only [dat]
theorem after2_1 (c : Dev nD) (t : Fin cfg2.N) : (dat V c).after 1 t = iblk V c 1 t := by dsimp only [dat]
theorem after2_2 (c : Dev nD) (t : Fin cfg2.N) : (dat V c).after 2 t = iblk V c 2 t := by dsimp only [dat]
theorem after2_3 (c : Dev nD) (t : Fin cfg2.N) : (dat V c).after 3 t = iblk V c 3 t := by dsimp only [dat]
theorem after2_4 (c : Dev nD) (t : Fin cfg2.N) : (dat V c).after 4 t = iblk V c 4 t := by dsimp only [dat]
theorem after2_5 (c : Dev nD) (t : Fin cfg2.N) : (dat V c).after 5 t = iblk V c 5 t := by dsimp only [dat]
theorem after2_6 (c : Dev nD) (t : Fin cfg2.N) : (dat V c).after 6 t = (outsAt2 V c t.val t.isLt) := by dsimp only [dat]

theorem before2_0 (c : Dev nD) (t : Fin cfg2.N) (d) : (dat V c).before 0 t d = iblk V c 0 t :=
  before2_0_of V (dat V c) (A_eq V c 0) (after2_0 V c) t d
theorem before2_1 (c : Dev nD) (t : Fin cfg2.N) (d) : (dat V c).before 1 t d = iblk V c 1 t :=
  before2_1_of V (dat V c) (A_eq V c 1) (after2_1 V c) t d
theorem before2_2 (c : Dev nD) (t : Fin cfg2.N) (d) : (dat V c).before 2 t d = iblk V c 2 t :=
  before2_2_of V (dat V c) (A_eq V c 2) (after2_2 V c) t d
theorem before2_3 (c : Dev nD) (t : Fin cfg2.N) (d) : (dat V c).before 3 t d = iblk V c 3 t :=
  before2_3_of V (dat V c) (A_eq V c 3) (after2_3 V c) t d
theorem before2_4 (c : Dev nD) (t : Fin cfg2.N) (d) : (dat V c).before 4 t d = iblk V c 4 t :=
  before2_4_of V (dat V c) (A_eq V c 4) (after2_4 V c) t d
theorem before2_5 (c : Dev nD) (t : Fin cfg2.N) (d) : (dat V c).before 5 t d = iblk V c 5 t :=
  before2_5_of V (dat V c) (A_eq V c 5) (after2_5 V c) t d

theorem hcarry2_6 (c : Dev nD) : ∀ (t : Fin cfg2.N) (_ : t.val ≠ 0), cfg2.idle 6 (grid2.coords t) = true → cfg2.fresh 6 t.val = false →
    (dat V c).after 6 t = (dat V c).after 6 ⟨t.val - 1, by omega⟩ := by
  intro t _ hi _
  have hN : t.val < 16 := lt_of_lt_of_eq t.isLt (show cfg2.N = 16 from N_2)
  rw [after2_6, after2_6]
  by_cases h0 : t.val % 4 = 0
  · by_cases h1 : 1 ≤ t.val % 4
    · exfalso; omega
    · rw [liveAt2_6_A t ((hcond2_0 t).mpr h0) (fun h => h1 ((hcond2_1 t).mp h))] at hi
      exact absurd hi Bool.false_ne_true
  · by_cases h1 : 1 ≤ t.val % 4
    · rw [liveAt2_6_B t (fun h => h0 ((hcond2_0 t).mp h)) ((hcond2_1 t).mpr h1)] at hi
      exact absurd hi Bool.false_ne_true
    · exfalso; omega
theorem before2_6_B (c : Dev nD) (t : Fin cfg2.N) (h0 : ¬t.val % 4 = 0) (h1 : 1 ≤ t.val % 4) (d) :
    (dat V c).before 6 t d = (outsAt2 V c (t.val - 1) (Nat.lt_of_le_of_lt (Nat.sub_le _ _) t.isLt)) := by
  rw [Dat.before_out_traj _ 6 rfl (fun _ _ => rfl) (hcarry2_6 V c) t.val t rfl d,
    if_neg (by rw [notFresh2_6_B t (fun h => h0 ((hcond2_0 t).mp h)) ((hcond2_1 t).mpr h1)]; exact Bool.false_ne_true)]
  dsimp only [dat]

def bodyPre (c : Dev nD) (t : Fin cfg2.N) : sProp 𝕄 :=
  iprop((dat V c).Φ t.castSucc ∗ (dat V c).owesAt () t.castSucc
    ∗ (∃ d, owns (c : Thread nD τ) (ms2_0 t) fullShare ((dat V c).before 0 t d))
    ∗ (∃ d, owns (c : Thread nD τ) (ms2_1 t) fullShare ((dat V c).before 1 t d))
    ∗ (∃ d, owns (c : Thread nD τ) (ms2_2 t) fullShare ((dat V c).before 2 t d))
    ∗ (∃ d, owns (c : Thread nD τ) (ms2_3 t) fullShare ((dat V c).before 3 t d))
    ∗ (∃ d, owns (c : Thread nD τ) (ms2_4 t) fullShare ((dat V c).before 4 t d))
    ∗ (∃ d, owns (c : Thread nD τ) (ms2_5 t) fullShare ((dat V c).before 5 t d))
    ∗ (∃ d, owns (c : Thread nD τ) (ms2_6 t) fullShare ((dat V c).before 6 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 800000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before2_0, before2_1, before2_2, before2_3, before2_4, before2_5]
  rw [show (dat V c).Φ t.succ = (dat V c).Φ t.castSucc from rfl,
    show (dat V c).owesAt () t.succ = (dat V c).owesAt () t.castSucc from rfl]
  have hN : t.val < 16 := lt_of_lt_of_eq t.isLt (show cfg2.N = 16 from N_2)
  by_cases h0 : t.val % 4 = 0
  · by_cases h1 : 1 ≤ t.val % 4
    · exfalso; omega
    · rw [show (dat V c).leavesExact 0 t = owns (c : Thread nD τ) (ms2_0 t) fullShare ((dat V c).after 0 t) from by
      unfold Dat.leavesExact; rw [liveAt2_0 t], after2_0]
      rw [show (dat V c).leavesExact 1 t = owns (c : Thread nD τ) (ms2_1 t) fullShare ((dat V c).after 1 t) from by
      unfold Dat.leavesExact; rw [liveAt2_1 t], after2_1]
      rw [show (dat V c).leavesExact 2 t = owns (c : Thread nD τ) (ms2_2 t) fullShare ((dat V c).after 2 t) from by
      unfold Dat.leavesExact; rw [liveAt2_2 t], after2_2]
      rw [show (dat V c).leavesExact 3 t = owns (c : Thread nD τ) (ms2_3 t) fullShare ((dat V c).after 3 t) from by
      unfold Dat.leavesExact; rw [liveAt2_3 t], after2_3]
      rw [show (dat V c).leavesExact 4 t = owns (c : Thread nD τ) (ms2_4 t) fullShare ((dat V c).after 4 t) from by
      unfold Dat.leavesExact; rw [liveAt2_4 t], after2_4]
      rw [show (dat V c).leavesExact 5 t = owns (c : Thread nD τ) (ms2_5 t) fullShare ((dat V c).after 5 t) from by
      unfold Dat.leavesExact; rw [liveAt2_5 t], after2_5]
      rw [show (dat V c).leavesExact 6 t = owns (c : Thread nD τ) (ms2_6 t) fullShare ((dat V c).after 6 t) from by
      unfold Dat.leavesExact; rw [liveAt2_6_A t ((hcond2_0 t).mpr h0) (fun h => h1 ((hcond2_1 t).mp h))], after2_6]
      rw [outsAt0_A V c t h0 h1]
      unfold out2_A_6
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((kernelRun2_A c (grid2.coords t) _ _ _ _ _ _ _ _ _ _ _ _ _ _ ((hcond2_0 t).mpr h0) (fun h => h1 ((hcond2_1 t).mp h)) (iblk V c 0 t) (iblk V c 1 t) (iblk V c 2 t) (iblk V c 3 t) (iblk V c 4 t) (iblk V c 5 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iintro ⟨H0, H1, H2, H3, H4, H5, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover2_A_6 c _ _ _ _ _ _ _ _ _ _ _ _ _ _ _ _ _ _ _ _ _ _ _)
  · by_cases h1 : 1 ≤ t.val % 4
    · rw [show (dat V c).leavesExact 0 t = owns (c : Thread nD τ) (ms2_0 t) fullShare ((dat V c).after 0 t) from by
      unfold Dat.leavesExact; rw [liveAt2_0 t], after2_0]
      rw [show (dat V c).leavesExact 1 t = owns (c : Thread nD τ) (ms2_1 t) fullShare ((dat V c).after 1 t) from by
      unfold Dat.leavesExact; rw [liveAt2_1 t], after2_1]
      rw [show (dat V c).leavesExact 2 t = owns (c : Thread nD τ) (ms2_2 t) fullShare ((dat V c).after 2 t) from by
      unfold Dat.leavesExact; rw [liveAt2_2 t], after2_2]
      rw [show (dat V c).leavesExact 3 t = owns (c : Thread nD τ) (ms2_3 t) fullShare ((dat V c).after 3 t) from by
      unfold Dat.leavesExact; rw [liveAt2_3 t], after2_3]
      rw [show (dat V c).leavesExact 4 t = owns (c : Thread nD τ) (ms2_4 t) fullShare ((dat V c).after 4 t) from by
      unfold Dat.leavesExact; rw [liveAt2_4 t], after2_4]
      rw [show (dat V c).leavesExact 5 t = owns (c : Thread nD τ) (ms2_5 t) fullShare ((dat V c).after 5 t) from by
      unfold Dat.leavesExact; rw [liveAt2_5 t], after2_5]
      rw [show (dat V c).leavesExact 6 t = owns (c : Thread nD τ) (ms2_6 t) fullShare ((dat V c).after 6 t) from by
      unfold Dat.leavesExact; rw [liveAt2_6_B t (fun h => h0 ((hcond2_0 t).mp h)) ((hcond2_1 t).mpr h1)], after2_6]
      rw [outsAt0_B V c t h0 h1]
      simp only [before2_6_B V c t h0 h1]
      unfold out2_B_6
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((kernelRun2_B c (grid2.coords t) _ _ _ _ _ _ _ _ _ _ _ _ _ _ (fun h => h0 ((hcond2_0 t).mp h)) ((hcond2_1 t).mpr h1) (iblk V c 0 t) (iblk V c 1 t) (iblk V c 2 t) (iblk V c 3 t) (iblk V c 4 t) (iblk V c 5 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover2_B_6 c _ _ _ _ _ _ _ _ _ _ _ _ _ _ _ _ _ _ _ _ _ _ _ _)
    · exfalso; omega

theorem defs₀_row (t : Fin cfg2.N) :
    defs₀ (F := F) .tc cfg2.body (cfg2.bodyArgs t (cfg2.slots t)) = bodyAt2 t := by
  unfold defs₀; rw [Defs.onTc_tc]

/-- The body meets its obligation at every point. -/
theorem body_obligation (c : Dev nD) : BodyObligation (dat (F := F) V c) (defs₀ (F := F)) Variants.none () Set.univ := fun t => by
  rw [bigSep_W2, bigSep_W2, defs₀_row]
  exact triple_restated (sound_body V c t) rfl .rfl fun _ => .rfl

end Cert.KernelIdeal.Group

end
-- ==== Proof.Group2.lean ====
/- The fourth call (the group terms of the second cloud): the body is the third call's, on its own arrays. -/
module

public import proofs.«01_k».proof.Proof.Group
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Group2

open Cert.KernelIdeal Cert.KernelIdeal.Gen
open Cert.KernelIdeal.Group (cond2_0 cond2_1 kernelRun2_A kernelRun2_B cover2_A_6 cover2_B_6 out2_A_6 out2_B_6)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The last two calls have the same body. -/
theorem call_eq : (cc3__group_kernel (F := F)) = cc2__group_kernel := by sl_kernel_rfl

variable (V : (c : Dev nD) → (b : Ref sig .tc) → Buf (Elt F) ((c : Thread nD τ).loc b))

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk V c 4 t) (t : Fin cfg3.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk V c 5 t) (t : Fin cfg3.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem hcond3_0 : ∀ t : Fin cfg3.N, cond2_0 (grid3.coords t) ↔ t.val % 4 = 0 :=
  (fun t => by
    have ht : t.val < 16 := Nat.lt_of_lt_of_eq t.isLt N_3
    have e0 : (grid3.coords t 0).val = t.val / 4 % 4 := Pipeline.Grid.coords_val t 0 (by decide) rfl
    have e1 : (grid3.coords t 1).val = t.val / 1 % 4 := Pipeline.Grid.coords_val t 1 (by decide) rfl
    simp only [cond2_0, k2_cond1, e0, e1]
    word_cmp
   : ∀ t : Fin grid3.N, cond2_0 (grid3.coords t) ↔ t.val % 4 = 0)

theorem hcond3_1 : ∀ t : Fin cfg3.N, cond2_1 (grid3.coords t) ↔ 1 ≤ t.val % 4 :=
  (fun t => by
    have ht : t.val < 16 := Nat.lt_of_lt_of_eq t.isLt N_3
    have e0 : (grid3.coords t 0).val = t.val / 4 % 4 := Pipeline.Grid.coords_val t 0 (by decide) rfl
    have e1 : (grid3.coords t 1).val = t.val / 1 % 4 := Pipeline.Grid.coords_val t 1 (by decide) rfl
    simp only [cond2_1, k2_cond2, e0, e1]
    word_cmp
   : ∀ t : Fin grid3.N, cond2_1 (grid3.coords t) ↔ 1 ≤ t.val % 4)

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
theorem liveAt3_4 : ∀ t : Fin cfg3.N, cfg3.idle 4 (grid3.coords t) = false := fun _ => rfl
theorem liveAt3_5 : ∀ t : Fin cfg3.N, cfg3.idle 5 (grid3.coords t) = false := fun _ => rfl
def freshTab3_6 : ℕ → Bool
  | 0 => true
  | n + 1 => (0x8888 : ℕ).testBit n
theorem freshTab3_6_step : ∀ t : Fin cfg3.N,
    freshTab3_6 (t.val + 1) = ((cfg3.win 6).flush t || (cfg3.idle 6 (cfg3.grid.coords t) && freshTab3_6 t.val)) := by decide +kernel
theorem fresh3_6_eq (t : Fin cfg3.N) : cfg3.fresh 6 t.val = freshTab3_6 t.val :=
  Pipeline.Cfg.fresh_tab cfg3 6 freshTab3_6 rfl freshTab3_6_step t.val (Nat.le_of_lt t.isLt)
theorem liveAt3_6_A : ∀ t : Fin cfg3.N, cond2_0 (grid3.coords t) → ¬cond2_1 (grid3.coords t) → cfg3.idle 6 (grid3.coords t) = false := by decide +kernel
theorem liveAt3_6_B : ∀ t : Fin cfg3.N, ¬cond2_0 (grid3.coords t) → cond2_1 (grid3.coords t) → cfg3.idle 6 (grid3.coords t) = false := by decide +kernel
theorem notFresh3_6_B : ∀ t : Fin cfg3.N, ¬cond2_0 (grid3.coords t) → cond2_1 (grid3.coords t) → cfg3.fresh 6 t.val = false := by
  intro t; rw [fresh3_6_eq t]; revert t; decide +kernel

abbrev ms3_0 (t : Fin cfg3.N) : Memref sig .tc .vmem S1x8192x256 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x1x8192 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1x8192 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1x8192 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x1x8192 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x128x1 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1x1x1 .f32 := win3_6.stage (cfg3.slots t 6)
abbrev hs3_6 (t : Fin cfg3.N) : (ms3_6 t).IsWhole := hstage3_6 ((cfg3.slots t 6).cast nbuf3_6)

/-- What the outputs' staging buffers hold after the body at a point. -/
def outsAt3 (c : Dev nD) : (n : ℕ) → n < cfg3.N → Vec F S1x1x1 .f32
  | 0, hn => out2_A_6 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) ((hcond3_0 ⟨0, hn⟩).mpr (Nat.zero_mod _)) (fun h => (fun h => by (try dsimp only at h); omega) ((hcond3_1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩)
  | n + 1, hn =>
    if h0 : (n + 1) % 4 = 0 then
      if h1 : 1 ≤ (n + 1) % 4 then
        False.elim (by have hN : n + 1 < 16 := lt_of_lt_of_eq hn (show cfg3.N = 16 from N_3); omega)
      else
        out2_A_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) ((hcond3_0 ⟨n + 1, hn⟩).mpr h0) (fun h => h1 ((hcond3_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩)
    else
      if h1 : 1 ≤ (n + 1) % 4 then
        out2_B_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (fun h => h0 ((hcond3_0 ⟨n + 1, hn⟩).mp h)) ((hcond3_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt3 c n (Nat.lt_of_succ_lt hn))
      else
        False.elim (by have hN : n + 1 < 16 := lt_of_lt_of_eq hn (show cfg3.N = 16 from N_3); omega)

theorem outsAt0_A (c : Dev nD) (t : Fin cfg3.N) (h0 : t.val % 4 = 0) (h1 : ¬1 ≤ t.val % 4) :
    outsAt3 V c t.val t.isLt = out2_A_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) ((hcond3_0 t).mpr h0) (fun h => h1 ((hcond3_1 t).mp h)) (iblk V c 0 t) (iblk V c 1 t) (iblk V c 2 t) (iblk V c 3 t) (iblk V c 4 t) (iblk V c 5 t) := by
  obtain ⟨n, hn⟩ := t
  cases n with
  | zero => exact rfl
  | succ n => exact (dif_pos h0).trans ((dif_neg h1).trans rfl)

theorem outsAt0_B (c : Dev nD) (t : Fin cfg3.N) (h0 : ¬t.val % 4 = 0) (h1 : 1 ≤ t.val % 4) :
    outsAt3 V c t.val t.isLt = out2_B_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (fun h => h0 ((hcond3_0 t).mp h)) ((hcond3_1 t).mpr h1) (iblk V c 0 t) (iblk V c 1 t) (iblk V c 2 t) (iblk V c 3 t) (iblk V c 4 t) (iblk V c 5 t) (outsAt3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The region's proof data on core `c`: arrays as found, inputs' buffers at their blocks, outputs' at `outsAt`. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt3 V c t.val t.isLt)
  Φ _ := Pipeline.ΦA spec3 c
  q _ := fullShare
  owed _ := 0

theorem A_eq (c : Dev nD) (w : Fin cfg3.W) : (dat V c).A w = V c (Pipeline.arrRef spec3 w) := by
  dsimp only [dat]

theorem after3_0 (c : Dev nD) (t : Fin cfg3.N) : (dat V c).after 0 t = iblk V c 0 t := by dsimp only [dat]
theorem after3_1 (c : Dev nD) (t : Fin cfg3.N) : (dat V c).after 1 t = iblk V c 1 t := by dsimp only [dat]
theorem after3_2 (c : Dev nD) (t : Fin cfg3.N) : (dat V c).after 2 t = iblk V c 2 t := by dsimp only [dat]
theorem after3_3 (c : Dev nD) (t : Fin cfg3.N) : (dat V c).after 3 t = iblk V c 3 t := by dsimp only [dat]
theorem after3_4 (c : Dev nD) (t : Fin cfg3.N) : (dat V c).after 4 t = iblk V c 4 t := by dsimp only [dat]
theorem after3_5 (c : Dev nD) (t : Fin cfg3.N) : (dat V c).after 5 t = iblk V c 5 t := by dsimp only [dat]
theorem after3_6 (c : Dev nD) (t : Fin cfg3.N) : (dat V c).after 6 t = (outsAt3 V c t.val t.isLt) := by dsimp only [dat]

theorem before3_0 (c : Dev nD) (t : Fin cfg3.N) (d) : (dat V c).before 0 t d = iblk V c 0 t :=
  before3_0_of V (dat V c) (A_eq V c 0) (after3_0 V c) t d
theorem before3_1 (c : Dev nD) (t : Fin cfg3.N) (d) : (dat V c).before 1 t d = iblk V c 1 t :=
  before3_1_of V (dat V c) (A_eq V c 1) (after3_1 V c) t d
theorem before3_2 (c : Dev nD) (t : Fin cfg3.N) (d) : (dat V c).before 2 t d = iblk V c 2 t :=
  before3_2_of V (dat V c) (A_eq V c 2) (after3_2 V c) t d
theorem before3_3 (c : Dev nD) (t : Fin cfg3.N) (d) : (dat V c).before 3 t d = iblk V c 3 t :=
  before3_3_of V (dat V c) (A_eq V c 3) (after3_3 V c) t d
theorem before3_4 (c : Dev nD) (t : Fin cfg3.N) (d) : (dat V c).before 4 t d = iblk V c 4 t :=
  before3_4_of V (dat V c) (A_eq V c 4) (after3_4 V c) t d
theorem before3_5 (c : Dev nD) (t : Fin cfg3.N) (d) : (dat V c).before 5 t d = iblk V c 5 t :=
  before3_5_of V (dat V c) (A_eq V c 5) (after3_5 V c) t d

theorem hcarry3_6 (c : Dev nD) : ∀ (t : Fin cfg3.N) (_ : t.val ≠ 0), cfg3.idle 6 (grid3.coords t) = true → cfg3.fresh 6 t.val = false →
    (dat V c).after 6 t = (dat V c).after 6 ⟨t.val - 1, by omega⟩ := by
  intro t _ hi _
  have hN : t.val < 16 := lt_of_lt_of_eq t.isLt (show cfg3.N = 16 from N_3)
  rw [after3_6, after3_6]
  by_cases h0 : t.val % 4 = 0
  · by_cases h1 : 1 ≤ t.val % 4
    · exfalso; omega
    · rw [liveAt3_6_A t ((hcond3_0 t).mpr h0) (fun h => h1 ((hcond3_1 t).mp h))] at hi
      exact absurd hi Bool.false_ne_true
  · by_cases h1 : 1 ≤ t.val % 4
    · rw [liveAt3_6_B t (fun h => h0 ((hcond3_0 t).mp h)) ((hcond3_1 t).mpr h1)] at hi
      exact absurd hi Bool.false_ne_true
    · exfalso; omega
theorem before3_6_B (c : Dev nD) (t : Fin cfg3.N) (h0 : ¬t.val % 4 = 0) (h1 : 1 ≤ t.val % 4) (d) :
    (dat V c).before 6 t d = (outsAt3 V c (t.val - 1) (Nat.lt_of_le_of_lt (Nat.sub_le _ _) t.isLt)) := by
  rw [Dat.before_out_traj _ 6 rfl (fun _ _ => rfl) (hcarry3_6 V c) t.val t rfl d,
    if_neg (by rw [notFresh3_6_B t (fun h => h0 ((hcond3_0 t).mp h)) ((hcond3_1 t).mpr h1)]; exact Bool.false_ne_true)]
  dsimp only [dat]

def bodyPre (c : Dev nD) (t : Fin cfg3.N) : sProp 𝕄 :=
  iprop((dat V c).Φ t.castSucc ∗ (dat V c).owesAt () t.castSucc
    ∗ (∃ d, owns (c : Thread nD τ) (ms3_0 t) fullShare ((dat V c).before 0 t d))
    ∗ (∃ d, owns (c : Thread nD τ) (ms3_1 t) fullShare ((dat V c).before 1 t d))
    ∗ (∃ d, owns (c : Thread nD τ) (ms3_2 t) fullShare ((dat V c).before 2 t d))
    ∗ (∃ d, owns (c : Thread nD τ) (ms3_3 t) fullShare ((dat V c).before 3 t d))
    ∗ (∃ d, owns (c : Thread nD τ) (ms3_4 t) fullShare ((dat V c).before 4 t d))
    ∗ (∃ d, owns (c : Thread nD τ) (ms3_5 t) fullShare ((dat V c).before 5 t d))
    ∗ (∃ d, owns (c : Thread nD τ) (ms3_6 t) fullShare ((dat V c).before 6 t d)))

def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 800000 in
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  rw [call_eq]
  simp only [before3_0, before3_1, before3_2, before3_3, before3_4, before3_5]
  rw [show (dat V c).Φ t.succ = (dat V c).Φ t.castSucc from rfl,
    show (dat V c).owesAt () t.succ = (dat V c).owesAt () t.castSucc from rfl]
  have hN : t.val < 16 := lt_of_lt_of_eq t.isLt (show cfg3.N = 16 from N_3)
  by_cases h0 : t.val % 4 = 0
  · by_cases h1 : 1 ≤ t.val % 4
    · exfalso; omega
    · rw [show (dat V c).leavesExact 0 t = owns (c : Thread nD τ) (ms3_0 t) fullShare ((dat V c).after 0 t) from by
      unfold Dat.leavesExact; rw [liveAt3_0 t], after3_0]
      rw [show (dat V c).leavesExact 1 t = owns (c : Thread nD τ) (ms3_1 t) fullShare ((dat V c).after 1 t) from by
      unfold Dat.leavesExact; rw [liveAt3_1 t], after3_1]
      rw [show (dat V c).leavesExact 2 t = owns (c : Thread nD τ) (ms3_2 t) fullShare ((dat V c).after 2 t) from by
      unfold Dat.leavesExact; rw [liveAt3_2 t], after3_2]
      rw [show (dat V c).leavesExact 3 t = owns (c : Thread nD τ) (ms3_3 t) fullShare ((dat V c).after 3 t) from by
      unfold Dat.leavesExact; rw [liveAt3_3 t], after3_3]
      rw [show (dat V c).leavesExact 4 t = owns (c : Thread nD τ) (ms3_4 t) fullShare ((dat V c).after 4 t) from by
      unfold Dat.leavesExact; rw [liveAt3_4 t], after3_4]
      rw [show (dat V c).leavesExact 5 t = owns (c : Thread nD τ) (ms3_5 t) fullShare ((dat V c).after 5 t) from by
      unfold Dat.leavesExact; rw [liveAt3_5 t], after3_5]
      rw [show (dat V c).leavesExact 6 t = owns (c : Thread nD τ) (ms3_6 t) fullShare ((dat V c).after 6 t) from by
      unfold Dat.leavesExact; rw [liveAt3_6_A t ((hcond3_0 t).mpr h0) (fun h => h1 ((hcond3_1 t).mp h))], after3_6]
      rw [outsAt0_A V c t h0 h1]
      unfold out2_A_6
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((kernelRun2_A c (grid3.coords t) _ _ _ _ _ _ _ _ _ _ _ _ _ _ ((hcond3_0 t).mpr h0) (fun h => h1 ((hcond3_1 t).mp h)) (iblk V c 0 t) (iblk V c 1 t) (iblk V c 2 t) (iblk V c 3 t) (iblk V c 4 t) (iblk V c 5 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iintro ⟨H0, H1, H2, H3, H4, H5, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover2_A_6 c _ _ _ _ _ _ _ _ _ _ _ _ _ _ _ _ _ _ _ _ _ _ _)
  · by_cases h1 : 1 ≤ t.val % 4
    · rw [show (dat V c).leavesExact 0 t = owns (c : Thread nD τ) (ms3_0 t) fullShare ((dat V c).after 0 t) from by
      unfold Dat.leavesExact; rw [liveAt3_0 t], after3_0]
      rw [show (dat V c).leavesExact 1 t = owns (c : Thread nD τ) (ms3_1 t) fullShare ((dat V c).after 1 t) from by
      unfold Dat.leavesExact; rw [liveAt3_1 t], after3_1]
      rw [show (dat V c).leavesExact 2 t = owns (c : Thread nD τ) (ms3_2 t) fullShare ((dat V c).after 2 t) from by
      unfold Dat.leavesExact; rw [liveAt3_2 t], after3_2]
      rw [show (dat V c).leavesExact 3 t = owns (c : Thread nD τ) (ms3_3 t) fullShare ((dat V c).after 3 t) from by
      unfold Dat.leavesExact; rw [liveAt3_3 t], after3_3]
      rw [show (dat V c).leavesExact 4 t = owns (c : Thread nD τ) (ms3_4 t) fullShare ((dat V c).after 4 t) from by
      unfold Dat.leavesExact; rw [liveAt3_4 t], after3_4]
      rw [show (dat V c).leavesExact 5 t = owns (c : Thread nD τ) (ms3_5 t) fullShare ((dat V c).after 5 t) from by
      unfold Dat.leavesExact; rw [liveAt3_5 t], after3_5]
      rw [show (dat V c).leavesExact 6 t = owns (c : Thread nD τ) (ms3_6 t) fullShare ((dat V c).after 6 t) from by
      unfold Dat.leavesExact; rw [liveAt3_6_B t (fun h => h0 ((hcond3_0 t).mp h)) ((hcond3_1 t).mpr h1)], after3_6]
      rw [outsAt0_B V c t h0 h1]
      simp only [before3_6_B V c t h0 h1]
      unfold out2_B_6
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((kernelRun2_B c (grid3.coords t) _ _ _ _ _ _ _ _ _ _ _ _ _ _ (fun h => h0 ((hcond3_0 t).mp h)) ((hcond3_1 t).mpr h1) (iblk V c 0 t) (iblk V c 1 t) (iblk V c 2 t) (iblk V c 3 t) (iblk V c 4 t) (iblk V c 5 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover2_B_6 c _ _ _ _ _ _ _ _ _ _ _ _ _ _ _ _ _ _ _ _ _ _ _ _)
    · exfalso; omega

theorem defs₀_row (t : Fin cfg3.N) :
    defs₀ (F := F) .tc cfg3.body (cfg3.bodyArgs t (cfg3.slots t)) = bodyAt3 t := by
  unfold defs₀; rw [Defs.onTc_tc]

/-- The body meets its obligation at every point. -/
theorem body_obligation (c : Dev nD) : BodyObligation (dat (F := F) V c) (defs₀ (F := F)) Variants.none () Set.univ := fun t => by
  rw [bigSep_W3, bigSep_W3, defs₀_row]
  exact triple_restated (sound_body V c t) rfl .rfl fun _ => .rfl

end Cert.KernelIdeal.Group2

end
-- ==== Proof.Run.lean ====
/- The whole kernel: its four calls and the host operations between them, from the launch to the return. -/
module

public import proofs.«01_k».proof.Proof.Group2
public import proofs.«01_k».proof.Proof.Gen.KernelIdeal.Regions
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays. -/
abbrev argRefs : List (Ref sig .tc) := [main_arg0, main_arg1, main_arg2, main_arg3, main_arg4]

/-! ## The buffer contents at each boundary of @main -/

/-- The buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references. -/
abbrev V0 : (c : Dev nD) → (b : Ref sig .tc) → Buf (Elt F) ((c : Thread nD τ).loc b) := fun c b => W0 m ρ c b

/-- After call 1: its arrays at what the pipeline leaves, every other buffer as before. -/
def W1 (c : Dev nD) : Valuation τ sig (Elt F) :=
  Pipeline.withArrays spec0 c (W0 m ρ c) fun w => (Stats.dat (V0 m ρ) c).arrAt w cfg0.N
theorem W1_arr (c : Dev nD) (w : Fin cfg0.W) :
    W1 m ρ c (Proc.devRef .tc (Pipeline.arrRef spec0 w)) = (Stats.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of the call's output arrays keeps its contents across it. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((Stats.dat (V0 m ρ) c).arrAt_in w (h w rfl) _).trans (Stats.A_eq (V0 m ρ) c w))
  · exact W1_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references. -/
abbrev V1 : (c : Dev nD) → (b : Ref sig .tc) → Buf (Elt F) ((c : Thread nD τ).loc b) := fun c b => W1 m ρ c b
theorem hF0 (c : Dev nD) (w : Fin cfg0.W) : (Stats.dat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

theorem hostOps1_args : ∀ a ∈ argRefs, a ∉ hostOps1_W := ListAll.forall_mem_of_all_decide (by decide +kernel)
/-- After the host operations that follow call 1. -/
abbrev W2 : Dev nD → Valuation τ sig (Elt F) := fun c => StableHlo.after hostOps1 (W1 m ρ c)
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
theorem W2_args (c : Dev nD) : ∀ a ∈ argRefs, W2 m ρ c (Proc.devRef .tc a) = m ((c : Thread nD τ).loc a) :=
  fun a ha => (W2_of m ρ c a (hostOps1_args a ha)).trans (W1_args m ρ c a ha)
/-- The same read at the TensorCore's references. -/
abbrev V2 : (c : Dev nD) → (b : Ref sig .tc) → Buf (Elt F) ((c : Thread nD τ).loc b) := fun c b => W2 m ρ c b

/-- After call 2: its arrays at what the pipeline leaves, every other buffer as before. -/
def W3 (c : Dev nD) : Valuation τ sig (Elt F) :=
  Pipeline.withArrays spec1 c (W2 m ρ c) fun w => (Fps.dat (V2 m ρ) c).arrAt w cfg1.N
theorem W3_arr (c : Dev nD) (w : Fin cfg1.W) :
    W3 m ρ c (Proc.devRef .tc (Pipeline.arrRef spec1 w)) = (Fps.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of the call's output arrays keeps its contents across it. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((Fps.dat (V2 m ρ) c).arrAt_in w (h w rfl) _).trans (Fps.A_eq (V2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references. -/
abbrev V3 : (c : Dev nD) → (b : Ref sig .tc) → Buf (Elt F) ((c : Thread nD τ).loc b) := fun c b => W3 m ρ c b
theorem hF1 (c : Dev nD) (w : Fin cfg1.W) : (Fps.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

theorem hostOps2_args : ∀ a ∈ argRefs, a ∉ hostOps2_W := ListAll.forall_mem_of_all_decide (by decide +kernel)
/-- After the host operations that follow call 2. -/
abbrev W4 : Dev nD → Valuation τ sig (Elt F) := fun c => StableHlo.after hostOps2 (W3 m ρ c)
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)
/-- The same read at the TensorCore's references. -/
abbrev V4 : (c : Dev nD) → (b : Ref sig .tc) → Buf (Elt F) ((c : Thread nD τ).loc b) := fun c b => W4 m ρ c b

/-- After call 3: its arrays at what the pipeline leaves, every other buffer as before. -/
def W5 (c : Dev nD) : Valuation τ sig (Elt F) :=
  Pipeline.withArrays spec2 c (W4 m ρ c) fun w => (Group.dat (V4 m ρ) c).arrAt w cfg2.N
theorem W5_arr (c : Dev nD) (w : Fin cfg2.W) :
    W5 m ρ c (Proc.devRef .tc (Pipeline.arrRef spec2 w)) = (Group.dat (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is none of the call's output arrays keeps its contents across it. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((Group.dat (V4 m ρ) c).arrAt_in w (h w rfl) _).trans (Group.A_eq (V4 m ρ) c w))
  · exact W5_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same read at the TensorCore's references. -/
abbrev V5 : (c : Dev nD) → (b : Ref sig .tc) → Buf (Elt F) ((c : Thread nD τ).loc b) := fun c b => W5 m ρ c b
theorem hF2 (c : Dev nD) (w : Fin cfg2.W) : (Group.dat (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

theorem hostOps3_args : ∀ a ∈ argRefs, a ∉ hostOps3_W := ListAll.forall_mem_of_all_decide (by decide +kernel)
/-- After the host operations that follow call 3. -/
abbrev W6 : Dev nD → Valuation τ sig (Elt F) := fun c => StableHlo.after hostOps3 (W5 m ρ c)
theorem W6_of (c : Dev nD) (r : Ref sig .tc) (h : r ∉ hostOps3_W) : W6 m ρ c (Proc.devRef .tc r) = W5 m ρ c (Proc.devRef .tc r) :=
  StableHlo.after_of_writes_sub hostOps3 _ hostOps3_writes h
theorem W6_args (c : Dev nD) : ∀ a ∈ argRefs, W6 m ρ c (Proc.devRef .tc a) = m ((c : Thread nD τ).loc a) :=
  fun a ha => (W6_of m ρ c a (hostOps3_args a ha)).trans (W5_args m ρ c a ha)
/-- The same read at the TensorCore's references. -/
abbrev V6 : (c : Dev nD) → (b : Ref sig .tc) → Buf (Elt F) ((c : Thread nD τ).loc b) := fun c b => W6 m ρ c b

/-- After call 4: its arrays at what the pipeline leaves, every other buffer as before. -/
def W7 (c : Dev nD) : Valuation τ sig (Elt F) :=
  Pipeline.withArrays spec3 c (W6 m ρ c) fun w => (Group2.dat (V6 m ρ) c).arrAt w cfg3.N
theorem W7_arr (c : Dev nD) (w : Fin cfg3.W) :
    W7 m ρ c (Proc.devRef .tc (Pipeline.arrRef spec3 w)) = (Group2.dat (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- A reference that is none of the call's output arrays keeps its contents across it. -/
theorem W7_of (c : Dev nD) (r : Ref sig .tc) (h : ∀ w : Fin cfg3.W, Pipeline.arrRef spec3 w = r → (cfg3.win w).isOut = false) :
    W7 m ρ c (Proc.devRef .tc r) = W6 m ρ c (Proc.devRef .tc r) := by
  by_cases hw : ∃ w : Fin cfg3.W, Pipeline.arrRef spec3 w = r
  · obtain ⟨w, rfl⟩ := hw
    exact (W7_arr m ρ c w).trans (((Group2.dat (V6 m ρ) c).arrAt_in w (h w rfl) _).trans (Group2.A_eq (V6 m ρ) c w))
  · exact W7_of_ne m ρ c r fun w e => hw ⟨w, e⟩
theorem argsIn3 : ∀ a ∈ argRefs, ∀ w : Fin cfg3.W, Pipeline.arrRef spec3 w = a → (cfg3.win w).isOut = false :=
  ListAll.forall_mem_of_all_decide (by decide +kernel)
theorem W7_args (c : Dev nD) : ∀ a ∈ argRefs, W7 m ρ c (Proc.devRef .tc a) = m ((c : Thread nD τ).loc a) :=
  fun a ha => (W7_of m ρ c a (argsIn3 a ha)).trans (W6_args m ρ c a ha)
/-- The same read at the TensorCore's references. -/
abbrev V7 : (c : Dev nD) → (b : Ref sig .tc) → Buf (Elt F) ((c : Thread nD τ).loc b) := fun c b => W7 m ρ c b
theorem hF3 (c : Dev nD) (w : Fin cfg3.W) : (Group2.dat (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

theorem hostOps4_args : ∀ a ∈ argRefs, a ∉ hostOps4_W := ListAll.forall_mem_of_all_decide (by decide +kernel)
/-- After the host operations that follow call 4. -/
abbrev W8 : Dev nD → Valuation τ sig (Elt F) := fun c => StableHlo.after hostOps4 (W7 m ρ c)
theorem W8_of (c : Dev nD) (r : Ref sig .tc) (h : r ∉ hostOps4_W) : W8 m ρ c (Proc.devRef .tc r) = W7 m ρ c (Proc.devRef .tc r) :=
  StableHlo.after_of_writes_sub hostOps4 _ hostOps4_writes h
theorem W8_args (c : Dev nD) : ∀ a ∈ argRefs, W8 m ρ c (Proc.devRef .tc a) = m ((c : Thread nD τ).loc a) :=
  fun a ha => (W8_of m ρ c a (hostOps4_args a ha)).trans (W7_args m ρ c a ha)

/-! ## The proof data of the four calls and the thread state between them -/

/-- Every call's proof data, each at its entry contents. -/
def pdats : (p : Fin 4) → (c : Dev nD) → Dat τ (Elt F) Unit ℕ (UR sig nD τ) ℕ (Pipeline.pin (pcfgs (F := F)) adm p) c
  | ⟨0, _⟩ => fun c => Stats.dat (V0 m ρ) c
  | ⟨1, _⟩ => fun c => Fps.dat (V2 m ρ) c
  | ⟨2, _⟩ => fun c => Group.dat (V4 m ρ) c
  | ⟨3, _⟩ => fun c => Group2.dat (V6 m ρ) c

abbrev 𝒱₀ : Variants := Variants.none
/-- No core owes another anything. -/
abbrev L : GSem nD τ sig → Finset Unit := fun _ => ∅
abbrev lv : GSem nD τ sig → Unit → ℕ := fun _ _ => 0
/-- What rides beside the buffers: the generator register at some state, nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state. -/
abbrev Tₙ (c : Dev nD) : sProp 𝕄 := iprop(StableHlo.held (c : Thread nD τ) (Pipeline.ucRefs τ sig) (W8 m ρ c) ∗ ∃ r, prngReg c r)

/-! ## The calls as segments -/

set_option backward.isDefEq.respectTransparency.types false in
/-- Call 1 over the thread state: entered at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Stats.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (Stats.A_eq (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Fps.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (Fps.A_eq (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 over the thread state: entered at `W4`, left at `W5`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Group.body_obligation (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (Group.A_eq (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 4 over the thread state: entered at `W6`, left at `W7`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (Group2.body_obligation (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) (Group2.A_eq (V6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ),
    .host (hseg hostOps3 hostOps3_sub hostOps3_fresh (W5 m ρ)),
    .region (reg3 m ρ),
    .host (hseg hostOps4 hostOps4_sub hostOps4_fresh (W7 m ρ)) ]
theorem main_run (c : Dev nD) : main (F := F) c = Pipeline.Seg.run (segs m ρ) := (main_chain c).trans (by chain_rfl)

set_option backward.isDefEq.respectTransparency.types false in
/-- The run: every execution terminates, nothing faulting, with every unscoped buffer at the last boundary's contents and
    every semaphore counter at zero. -/

theorem run : θ_run defs (onTc (τ := τ) (main (F := F))) ⟨m, fun _ => 0, ρ⟩ (fun r => (∀ c : Dev nD,
      ∀ b ∈ Pipeline.ucRefs τ sig, r.2.mem (((c : Thread nD τ)).1, b) = W8 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨h, funext fun g => hz g (.inr (regions_no_unscoped g.2))⟩)

/-- The arguments end as launched, and the machine is quiescent. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨(h.1 c _ (mem_uc main_arg0 (by decide))).trans (W8_args m ρ c main_arg0 (by decide)),
     (h.1 c _ (mem_uc main_arg1 (by decide))).trans (W8_args m ρ c main_arg1 (by decide)),
     (h.1 c _ (mem_uc main_arg2 (by decide))).trans (W8_args m ρ c main_arg2 (by decide)),
     (h.1 c _ (mem_uc main_arg3 (by decide))).trans (W8_args m ρ c main_arg3 (by decide)),
     (h.1 c _ (mem_uc main_arg4 (by decide))).trans (W8_args m ρ c main_arg4 (by decide))⟩, h.2⟩) (run m ρ)

end Cert.KernelIdeal.Run

end
-- ==== Proof.Frames.lean ====
/- The frame claims: every program runs to its end, faults nowhere, leaves its arguments as they were and every
   semaphore at zero. The kernel as printed and the kernel of the ideal pass are one text, so that the frame of the
   second, proved at every interpretation of the floats, is the frame of the first. -/
module

public import proofs.«01_k».proof.Defs
public import proofs.«01_k».proof.Proof.Gen.Kernel
public import proofs.«01_k».proof.Proof.Run
public import proofs.«01_k».proof.Proof.Gen.ReferenceIdeal.StepRun
public import Idealize.ShloMosaic.Lib.Quiescent
public import Idealize.ShloMosaic.Lib.Tactic

@[expose] public section

noncomputable section

namespace Cert.Frames

open Idealize.ShloMosaic Idealize.SL.Sem Idealize.ShloMosaic.Tactic

/-- The frame of the kernel as printed, as a proposition. -/
def printed [Cert.Kernel.Facts] : Prop :=
  ∀ (m : (ℓ : Loc Cert.Kernel.nD Cert.Kernel.τ Cert.Kernel.sig) → Buf (Elt Bits) ℓ) (g : Dev Cert.Kernel.nD → PrngReg), True →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

/-- The same proposition of the text of the ideal pass, read at the formats' own bits. -/
def twin [Cert.KernelIdeal.Facts] : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

/-- The two texts are one. -/
theorem printed_eq_twin : @printed Cert.Kernel.Gen.facts = @twin Cert.KernelIdeal.Gen.facts := by sl_kernel_rfl

theorem kernel : @Cert.quiescent_Kernel Cert.Kernel.Gen.facts := by
  have h : @printed Cert.Kernel.Gen.facts := by
    rw [printed_eq_twin]
    exact fun m g _ => Cert.KernelIdeal.Run.frame m g
  exact h

theorem kernelIdeal : @Cert.quiescent_KernelIdeal Cert.KernelIdeal.Gen.facts := fun m g _ => Cert.KernelIdeal.Run.frame m g

/-- The reference has no semaphore: its run alone says all there is to say. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run _ _ _).mono (fun r h => ⟨fun c => (h c).2, sem_eq_zero_of_no_sems (by decide) _⟩)
    (Cert.ReferenceIdeal.StepRun.run_iter m g (fun c n => n.rec (Cert.ReferenceIdeal.StepRun.initState m c) fun k s => Cert.ReferenceIdeal.Step.step k s)
      (fun _ => rfl) (fun _ _ => rfl))

theorem referenceIdeal : @Cert.quiescent_ReferenceIdeal Cert.ReferenceIdeal.Gen.facts := fun m g _ => reference_frame m g

end Cert.Frames

end
-- ==== Proof.Order.lean ====
/- The order of a row of extended reals, greatest first and of equal ones the lower index first: every index has a rank,
   the stable sort puts the index of rank `k` at place `k`, the first index of the greatest entry has rank zero, and
   overwriting the entries of rank below `k` leaves the entry of rank `k` first. -/
module

public import Idealize.ShloMosaic.PureOps
public import Idealize.ShloMosaic.Lib.SortFacts
public import Mathlib.Data.EReal.Operations
public import Mathlib.Order.Fin.Basic
public import Mathlib.Algebra.BigOperators.Fin

@[expose] public section

noncomputable section

namespace Cert.Order

open Idealize.ShloMosaic Classical

variable {n : ℕ}

/-- `a` comes before `b` in the row `v`: its entry is greater, or as great and its index the lower. -/
def Before (v : Fin n → EReal) (a b : Fin n) : Prop := v b < v a ∨ (v b = v a ∧ a < b)

/-- How many indices come before `i`. -/
def rank (v : Fin n → EReal) (i : Fin n) : ℕ := (Finset.univ.filter fun a => Before v a i).card

theorem Before.trans {v : Fin n → EReal} {a b c : Fin n} (h : Before v a b) (h' : Before v b c) : Before v a c := by
  unfold Before at *
  rcases h with h | ⟨h, h1⟩ <;> rcases h' with h' | ⟨h', h1'⟩
  · exact Or.inl (h'.trans h)
  · exact Or.inl (by rw [h']; exact h)
  · exact Or.inl (by rw [← h]; exact h')
  · exact Or.inr ⟨h'.trans h, h1.trans h1'⟩

theorem Before.irrefl {v : Fin n → EReal} {a : Fin n} (h : Before v a a) : False := by
  rcases h with h | ⟨-, h⟩ <;> exact lt_irrefl _ h

theorem before_total (v : Fin n → EReal) {a b : Fin n} (h : a ≠ b) : Before v a b ∨ Before v b a := by
  unfold Before
  rcases lt_trichotomy (v a) (v b) with h1 | h1 | h1
  · exact Or.inr (Or.inl h1)
  · rcases lt_or_gt_of_ne h with h2 | h2
    · exact Or.inl (Or.inr ⟨h1.symm, h2⟩)
    · exact Or.inr (Or.inr ⟨h1, h2⟩)
  · exact Or.inl (Or.inl h1)

theorem rank_lt_rank {v : Fin n → EReal} {a b : Fin n} (h : Before v a b) : rank v a < rank v b := by
  unfold rank
  apply Finset.card_lt_card
  rw [Finset.ssubset_iff_of_subset (fun x hx => by
    simp only [Finset.mem_filter, Finset.mem_univ, true_and] at hx ⊢
    exact hx.trans h)]
  exact ⟨a, by simpa using h, by simpa using fun h => h.irrefl⟩

theorem before_of_rank_lt {v : Fin n → EReal} {a b : Fin n} (h : rank v a < rank v b) : Before v a b := by
  rcases eq_or_ne a b with rfl | hab
  · exact absurd h (lt_irrefl _)
  · rcases before_total v hab with h1 | h1
    · exact h1
    · exact absurd (rank_lt_rank h1) (not_lt.mpr h.le)

theorem rank_injective (v : Fin n → EReal) : Function.Injective (rank v) := by
  intro a b h
  by_contra hab
  rcases before_total v hab with h1 | h1
  · exact absurd (rank_lt_rank h1) (by omega)
  · exact absurd (rank_lt_rank h1) (by omega)

theorem rank_lt (v : Fin n → EReal) (i : Fin n) : rank v i < n := by
  unfold rank
  have h : (Finset.univ.filter fun a => Before v a i).card < (Finset.univ : Finset (Fin n)).card :=
    Finset.card_lt_card (by
      rw [Finset.ssubset_iff_of_subset (Finset.subset_univ _)]
      exact ⟨i, Finset.mem_univ _, by simpa using fun h => h.irrefl⟩)
  simpa using h

theorem exists_rank (v : Fin n → EReal) (k : ℕ) (hk : k < n) : ∃ i, rank v i = k := by
  have hs : Function.Surjective fun i => (⟨rank v i, rank_lt v i⟩ : Fin n) :=
    Finite.surjective_of_injective fun a b h => rank_injective v (by simpa using h)
  obtain ⟨i, hi⟩ := hs ⟨k, hk⟩
  exact ⟨i, by simpa using hi⟩

/-- The index of rank `k`. -/
def nth (v : Fin n → EReal) (k : ℕ) (hk : k < n) : Fin n := (exists_rank v k hk).choose

theorem rank_nth (v : Fin n → EReal) (k : ℕ) (hk : k < n) : rank v (nth v k hk) = k := (exists_rank v k hk).choose_spec

theorem eq_nth {v : Fin n → EReal} {k : ℕ} (hk : k < n) {i : Fin n} (h : rank v i = k) : i = nth v k hk :=
  rank_injective v (h.trans (rank_nth v k hk).symm)

/-! ## The stable sort -/

theorem pairwise_insertBefore (v : Fin n → EReal) (a : Fin n) (l : List (Fin n)) (hl : l.Pairwise (Before v)) (ha : ∀ b ∈ l, a < b) :
    (insertBefore (fun x y => decide (v y < v x)) a l).Pairwise (Before v) := by
  induction l with
  | nil => simp [insertBefore]
  | cons b l ih =>
    rw [List.pairwise_cons] at hl
    unfold insertBefore
    split
    · rename_i h
      have h : v a < v b := by simpa using h
      refine List.pairwise_cons.mpr ⟨fun x hx => ?_, ih hl.2 fun x hx => ha x (List.mem_cons_of_mem _ hx)⟩
      have hx' := (perm_insertBefore (fun x y => decide (v y < v x)) a l).mem_iff.mp hx
      rcases List.mem_cons.mp hx' with rfl | hx'
      · exact Or.inl h
      · exact hl.1 x hx'
    · rename_i h
      have h : v b ≤ v a := by simpa using h
      have hab : Before v a b := by
        rcases lt_or_eq_of_le h with h | h
        · exact Or.inl h
        · exact Or.inr ⟨h, ha b List.mem_cons_self⟩
      refine List.pairwise_cons.mpr ⟨fun x hx => ?_, List.pairwise_cons.mpr hl⟩
      rcases List.mem_cons.mp hx with rfl | hx
      · exact hab
      · exact hab.trans (hl.1 x hx)

theorem pairwise_stableSort (v : Fin n → EReal) (l : List (Fin n)) (hl : l.Pairwise (· < ·)) :
    (stableSort (fun x y => decide (v y < v x)) l).Pairwise (Before v) := by
  induction l with
  | nil => simp [stableSort]
  | cons a l ih =>
    rw [List.pairwise_cons] at hl
    exact pairwise_insertBefore v a _ (ih hl.2) fun b hb => hl.1 b ((perm_stableSort _ l).mem_iff.mp hb)

/-- The stable sort puts at place `k` the index of rank `k`. -/
theorem rank_sortedFrom (v : Fin n → EReal) (k : Fin n) : rank v (sortedFrom (fun x y => decide (v y < v x)) k) = k := by
  have hp : (sortPositions n fun x y => decide (v y < v x)).Pairwise (Before v) :=
    pairwise_stableSort v _ (List.pairwise_lt_finRange n)
  have hmono : StrictMono fun k : Fin n => (⟨rank v (sortedFrom (fun x y => decide (v y < v x)) k), rank_lt v _⟩ : Fin n) := by
    intro a b hab
    show rank v _ < rank v _
    refine rank_lt_rank ?_
    unfold sortedFrom
    exact List.pairwise_iff_get.mp hp _ _ hab
  have hid : (fun k : Fin n => (⟨rank v (sortedFrom (fun x y => decide (v y < v x)) k), rank_lt v _⟩ : Fin n)) = id := by
    refine (hmono.range_inj strictMono_id).mp ?_
    rw [Set.range_id, Set.range_eq_univ]
    exact Finite.surjective_of_injective hmono.injective
  exact congrArg Fin.val (congrFun hid k)

/-! ## The first of the greatest -/

theorem le_of_rank_zero {v : Fin n → EReal} {f : Fin n} (h : rank v f = 0) (i : Fin n) : v i ≤ v f := by
  by_contra hi
  have := rank_lt_rank (v := v) (a := i) (b := f) (Or.inl (not_le.mp hi))
  omega

theorem first_of_rank_zero {v : Fin n → EReal} {f : Fin n} (h : rank v f = 0) (i : Fin n) (hi : v i = v f) : f ≤ i := by
  by_contra hi'
  have := rank_lt_rank (v := v) (a := i) (b := f) (Or.inr ⟨hi.symm, not_le.mp hi'⟩)
  omega

theorem fold_max_eq {ι : Type} [Fintype ι] (g : ι → EReal) (f : ι) (h : ∀ i, g i ≤ g f) : Finset.univ.fold max ⊥ g = g f := by
  apply le_antisymm
  · rw [Finset.fold_max_le]
    exact ⟨bot_le, fun i _ => h i⟩
  · rw [Finset.le_fold_max]
    exact Or.inr ⟨f, Finset.mem_univ _, le_refl _⟩

theorem fold_min_eq {ι : Type} [Fintype ι] (g : ι → EReal) (f : ι) (h : ∀ i, g f ≤ g i) : Finset.univ.fold min ⊤ g = g f := by
  apply le_antisymm
  · rw [Finset.fold_min_le]
    exact Or.inr ⟨f, Finset.mem_univ _, le_refl _⟩
  · rw [Finset.le_fold_min]
    exact ⟨le_top, fun i _ => h i⟩

/-- An index as an extended real. -/
def ix (i : Fin n) : EReal := (((i.val : ℕ) : ℝ) : EReal)

theorem ix_le {a b : Fin n} : ix a ≤ ix b ↔ a ≤ b := by
  unfold ix
  rw [EReal.coe_le_coe_iff, Nat.cast_le, Fin.le_def]

theorem ix_inj {a b : Fin n} : ix a = ix b ↔ a = b := by
  unfold ix
  rw [EReal.coe_eq_coe_iff, Nat.cast_inj, Fin.ext_iff]

/-- The least index whose entry the greatest is. -/
theorem fold_first {v : Fin n → EReal} {f : Fin n} (h : rank v f = 0) (P : Fin n → Prop) [DecidablePred P] (hP : ∀ i, P i ↔ v i = v f)
    (c : EReal) (hc : ix f ≤ c) : Finset.univ.fold min ⊤ (fun i => if P i then ix i else c) = ix f := by
  have hf : (if P f then ix f else c) = ix f := if_pos ((hP f).mpr rfl)
  refine (fold_min_eq (fun i => if P i then ix i else c) f fun i => ?_).trans hf
  rw [hf]
  show _ ≤ if P i then ix i else c
  split
  · exact ix_le.mpr (first_of_rank_zero h i ((hP i).mp ‹_›))
  · exact hc

theorem fold_first_max {v : Fin n → EReal} {f : Fin n} (h : rank v f = 0) (c : EReal) (hc : ix f ≤ c) :
    Finset.univ.fold min ⊤ (fun i => if v i = Finset.univ.fold max ⊥ v then ix i else c) = ix f :=
  fold_first h _ (fun i => by rw [fold_max_eq v f (le_of_rank_zero h)]) c hc

theorem fold_first_min {d : Fin n → EReal} {f : Fin n} (h : rank (fun i => -d i) f = 0) (c : EReal) (hc : ix f ≤ c) :
    Finset.univ.fold min ⊤ (fun i => if d i ≤ Finset.univ.fold min ⊤ d then ix i else c) = ix f := by
  have hm : ∀ i, d f ≤ d i := fun i => EReal.neg_le_neg_iff.mp (le_of_rank_zero h i)
  refine fold_first h _ (fun i => ?_) c hc
  rw [fold_min_eq d f hm]
  show _ ↔ -d i = -d f
  rw [neg_inj]
  exact ⟨fun h => le_antisymm h (hm i), fun h => h.le⟩

/-! ## Taking the least away, one after the other -/

/-- The row with the entries of rank below `k` (by least entry) overwritten. -/
def masked (d : Fin n → EReal) (C : EReal) (k : ℕ) (i : Fin n) : EReal := if rank (fun i => -d i) i < k then C else d i

theorem masked_zero (d : Fin n → EReal) (C : EReal) : masked d C 0 = d := by
  funext i; unfold masked; rw [if_neg (Nat.not_lt_zero _)]

theorem rank_masked {d : Fin n → EReal} {C : EReal} (hC : ∀ i, d i < C) {k : ℕ} {f : Fin n} (hf : rank (fun i => -d i) f = k) :
    rank (fun i => -masked d C k i) f = 0 := by
  show Finset.card _ = 0
  rw [Finset.card_eq_zero, Finset.filter_eq_empty_iff]
  intro a _ ha
  have hmf : masked d C k f = d f := if_neg (by omega)
  unfold Before at ha
  simp only [hmf, EReal.neg_lt_neg_iff, neg_inj] at ha
  by_cases h : rank (fun i => -d i) a < k
  · have hma : masked d C k a = C := if_pos h
    rw [hma] at ha
    rcases ha with ha | ha
    · exact absurd (hC f) (not_lt.mpr ha.le)
    · exact absurd (hC f) (by rw [ha.1]; exact lt_irrefl _)
  · have hma : masked d C k a = d a := if_neg h
    rw [hma] at ha
    refine h ?_
    rw [← hf]
    refine rank_lt_rank ?_
    unfold Before
    simpa only [EReal.neg_lt_neg_iff, neg_inj] using ha

theorem masked_succ (d : Fin n → EReal) (C : EReal) (k : ℕ) {f : Fin n} (hf : rank (fun i => -d i) f = k) (i : Fin n) :
    (if ix i = ix f then C else masked d C k i) = masked d C (k + 1) i := by
  unfold masked
  by_cases h : i = f
  · rw [if_pos (ix_inj.mpr h), if_pos (by subst h; omega)]
  · rw [if_neg fun h' => h (ix_inj.mp h')]
    have hne : rank (fun i => -d i) i ≠ k := fun h' => h (rank_injective _ (h'.trans hf.symm))
    by_cases h1 : rank (fun i => -d i) i < k
    · rw [if_pos h1, if_pos (by omega)]
    · rw [if_neg h1, if_neg (by omega)]

/-- A sum over the places below `m` is a sum over the indices of rank below `m`. -/
theorem sum_nth {M : Type} [AddCommMonoid M] (v : Fin n → EReal) (m : ℕ) (hm : m ≤ n) (g : Fin n → M) :
    ∑ j : Fin m, g (nth v j.val (lt_of_lt_of_le j.isLt hm)) = ∑ i, if rank v i < m then g i else 0 := by
  rw [← Finset.sum_filter]
  refine Finset.sum_bij (fun j _ => nth v j.val (lt_of_lt_of_le j.isLt hm)) (fun j _ => ?_) (fun a _ b _ h => ?_) (fun i hi => ?_) fun _ _ => rfl
  · simp only [Finset.mem_filter, Finset.mem_univ, true_and, rank_nth]
    exact j.isLt
  · have := congrArg (rank v) h
    simp only [rank_nth] at this
    exact Fin.ext this
  · simp only [Finset.mem_filter, Finset.mem_univ, true_and] at hi
    exact ⟨⟨rank v i, hi⟩, Finset.mem_univ _, (eq_nth _ rfl).symm⟩

end Cert.Order

end
-- ==== Proof.Consts.lean ====
/- What the constants of the two programs are as extended reals, and the exact operations at real numbers. -/
module

public import Idealize.ShloMosaic.PureOps.Ideal
public import Idealize.ShloMosaic.PureOps.Ideal.Laws
public import Idealize.ShloMosaic.Lib.IdealHost

@[expose] public section

noncomputable section

namespace Cert.Consts

open Idealize.ShloMosaic

theorem c_bot : Ideal.ofBits .f32 4286578688#32 = ⊥ := by simp [Ideal.ofBits, Ideal.ieee]
theorem c_top : Ideal.ofBits .f32 2139095040#32 = ⊤ := by simp [Ideal.ofBits, Ideal.ieee]
theorem c_8192 : Ideal.ofBits .f32 1174405120#32 = ((8192 : ℝ) : EReal) := by simp [Ideal.ofBits, Ideal.ieee]; norm_num; rw [← EReal.coe_mul]; norm_num
theorem c_200 : Ideal.ofBits .f32 1128792064#32 = ((200 : ℝ) : EReal) := by simp [Ideal.ofBits, Ideal.ieee]; norm_num; rw [← EReal.coe_mul]; norm_num
theorem c_33 : Ideal.ofBits .f32 1107558400#32 = ((33 : ℝ) : EReal) := by simp [Ideal.ofBits, Ideal.ieee]; norm_num; rw [← EReal.coe_mul]; norm_num
theorem c_320 : Ideal.ofBits .f32 1134559232#32 = ((320 : ℝ) : EReal) := by simp [Ideal.ofBits, Ideal.ieee]; norm_num; rw [← EReal.coe_mul]; norm_num
theorem c_half : Ideal.ofBits .f32 3204448256#32 = ((-(1 / 2) : ℝ) : EReal) := by simp [Ideal.ofBits, Ideal.ieee]; norm_num; rw [← EReal.coe_mul]; norm_num
theorem c_two : Ideal.ofBits .f32 1073741824#32 = ((2 : ℝ) : EReal) := by simp [Ideal.ofBits, Ideal.ieee]; norm_num; rw [← EReal.coe_mul]; norm_num
theorem c_e8 : Ideal.ofBits .f32 841731191#32 = ((11258999 / 2 ^ 50 : ℝ) : EReal) := by simp [Ideal.ofBits, Ideal.ieee]; norm_num; rw [← EReal.coe_mul]; norm_num
theorem c_e30 : Ideal.ofBits .f32 228737632#32 = ((10633824 / 2 ^ 123 : ℝ) : EReal) := by simp [Ideal.ofBits, Ideal.ieee]; norm_num; rw [← EReal.coe_mul]; norm_num
theorem c_big : Ideal.ofBits .f32 1900671690#32 = ((13234890 * 2 ^ 76 : ℝ) : EReal) := by simp [Ideal.ofBits, Ideal.ieee]
theorem c_512 : Ideal.ofBits .f32 1140850688#32 = ((512 : ℝ) : EReal) := by simp [Ideal.ofBits, Ideal.ieee]; norm_num; rw [← EReal.coe_mul]; norm_num
theorem c_4 : Ideal.ofBits .f32 1082130432#32 = ((4 : ℝ) : EReal) := by simp [Ideal.ofBits, Ideal.ieee]; norm_num; rw [← EReal.coe_mul]; norm_num
theorem c_32768 : Ideal.ofBits .f32 1191182336#32 = ((32768 : ℝ) : EReal) := by simp [Ideal.ofBits, Ideal.ieee]; norm_num; rw [← EReal.coe_mul]; norm_num

theorem coe_sum {ι : Type} (s : Finset ι) (f : ι → ℝ) : ((∑ i ∈ s, f i : ℝ) : EReal) = ∑ i ∈ s, (f i : EReal) := by
  classical
  induction s using Finset.induction with
  | empty => simp
  | insert a s ha ih => rw [Finset.sum_insert ha, Finset.sum_insert ha, EReal.coe_add, ih]

theorem div_real (x : ℝ) {y : ℝ} (h : y ≠ 0) : Ideal.div (x : EReal) (y : EReal) = ((x / y : ℝ) : EReal) := by
  rw [Ideal.div_coe h, ← EReal.coe_mul, mul_one_div]

theorem sqrt_real {r : ℝ} (h : 0 ≤ r) : Ideal.sqrt (r : EReal) = ((Real.sqrt r : ℝ) : EReal) := by
  rw [Ideal.sqrt_coe, if_neg (not_lt.mpr h)]

/-- The reciprocal root with zero's replaced by zero is the real number's. -/
theorem recip_real {r : ℝ} (h : 0 ≤ r) :
    (if (0 : EReal) < (r : EReal) then Ideal.rsqrt (r : EReal) else 0) = (((Real.sqrt r)⁻¹ : ℝ) : EReal) := by
  rw [Ideal.rsqrt_coe]
  rcases eq_or_lt_of_le h with h0 | h0
  · rw [← h0]; simp
  · rw [if_pos (by exact_mod_cast h0), if_neg (not_lt.mpr h), if_neg h0.ne']

theorem log1p_real {r : ℝ} (h : 0 ≤ r) : Ideal.log1p (r : EReal) = ((Real.log (1 + r) : ℝ) : EReal) := by
  unfold Ideal.log1p
  have h1 : (1 : EReal) + (r : EReal) = ((1 + r : ℝ) : EReal) := by rw [EReal.coe_add, EReal.coe_one]
  rw [h1]
  show (if 1 + r ≤ 0 then (⊥ : EReal) else _) = _
  rw [if_neg (by linarith)]

theorem max_real (a b : ℝ) : max (a : EReal) (b : EReal) = ((max a b : ℝ) : EReal) := (EReal.coe_strictMono.monotone.map_max).symm

end Cert.Consts

end
-- ==== Proof.Terms.lean ====
/- One sampled point's term: as the kernel computes it, from the neighbours' multiplicities over all points, and as the
   reference computes it, from the thirty-three rows; and that the two agree where every row's length times the mean
   row's length is not below the clamp. -/
module

public import proofs.«01_k».proof.Proof.Consts

@[expose] public section

set_option maxRecDepth 16384

noncomputable section

namespace Cert.Terms

open Idealize.ShloMosaic Cert.Consts

/-- The kernel's term: the rows `X`, each row's multiplicity `A` and squared length `Q`. -/
def kterm (X : Fin 8192 → Fin 256 → EReal) (A Q : Fin 8192 → EReal) : EReal :=
  Ideal.ofBits .f32 1128792064#32 *
      (0 - Ideal.div (Ideal.div
        (∑ k, (∑ i, A i * (if 0 < Q i then Ideal.rsqrt (Q i) else 0) * X i k) * ∑ i, A i * X i k)
        (max (Ideal.sqrt (∑ k, (∑ i, A i * X i k) * ∑ i, A i * X i k)) (Ideal.ofBits .f32 228737632#32)))
        (Ideal.ofBits .f32 1107558400#32))
    + Ideal.div (∑ i, A i * (Ideal.ofBits .f32 3204448256#32 * Ideal.log1p (Ideal.ofBits .f32 1134559232#32 * Q i)))
        (Ideal.ofBits .f32 1107558400#32)

/-- The mean row. -/
def avg (D : Fin 33 → Fin 256 → EReal) (k : Fin 256) : EReal := Ideal.div (∑ j, D j k) (Ideal.ofBits .f32 1107558400#32)

/-- A row's length times the mean row's. -/
def lengths (D : Fin 33 → Fin 256 → EReal) (j : Fin 33) : EReal :=
  Ideal.sqrt (∑ k, D j k * D j k) * Ideal.sqrt (∑ k, avg D k * avg D k)

/-- The reference's term, of the thirty-three rows `D`. -/
def rterm (D : Fin 33 → Fin 256 → EReal) : EReal :=
  Ideal.ofBits .f32 1128792064#32 *
      -(Ideal.div (∑ j, Ideal.div (∑ k, D j k * avg D k) (max (lengths D j) (Ideal.ofBits .f32 841731191#32)))
        (Ideal.ofBits .f32 1107558400#32))
    + 1 * Ideal.div (∑ j, Ideal.ofBits .f32 3204448256#32 * Ideal.log1p (Ideal.ofBits .f32 1134559232#32 * ∑ k, D j k * D j k))
        (Ideal.ofBits .f32 1107558400#32)

variable (x : Fin 8192 → Fin 256 → ℝ) (a : Fin 8192 → ℝ) (row : Fin 33 → Fin 8192)

/-- The weighted sum of the rows. -/
def zr (k : Fin 256) : ℝ := ∑ i, a i * x i k
/-- A row's squared length. -/
def sq (i : Fin 8192) : ℝ := ∑ k, x i k * x i k

theorem sq_nonneg (i : Fin 8192) : 0 ≤ sq x i := Finset.sum_nonneg fun k _ => mul_self_nonneg _

/-- The two terms at real rows. -/
def termr : ℝ :=
  200 * (0 - (∑ k, (∑ i, a i * (Real.sqrt (sq x i))⁻¹ * x i k) * zr x a k) / max (Real.sqrt (∑ k, zr x a k * zr x a k)) (10633824 / 2 ^ 123) / 33)
    + (∑ i, a i * (-(1 / 2) * Real.log (1 + 320 * sq x i))) / 33

theorem coe_sq (i : Fin 8192) : ∑ k, (x i k : EReal) * (x i k : EReal) = ((sq x i : ℝ) : EReal) := by
  unfold sq
  rw [coe_sum]
  exact Finset.sum_congr rfl fun k _ => (EReal.coe_mul _ _).symm

theorem kterm_real : kterm (fun i k => (x i k : EReal)) (fun i => (a i : EReal)) (fun i => ((sq x i : ℝ) : EReal)) = ((termr x a : ℝ) : EReal) := by
  have hz : ∀ k, ∑ i, (a i : EReal) * (x i k : EReal) = ((zr x a k : ℝ) : EReal) := fun k => by
    unfold zr
    rw [coe_sum]
    exact Finset.sum_congr rfl fun k _ => (EReal.coe_mul _ _).symm
  have hpos : (0 : ℝ) < 10633824 / 2 ^ 123 := by norm_num
  unfold kterm termr
  simp only [hz, recip_real (sq_nonneg x _), c_200, c_33, c_320, c_half, c_e30]
  simp only [← EReal.coe_mul]
  simp only [log1p_real (mul_nonneg (by norm_num : (0:ℝ) ≤ 320) (sq_nonneg x _))]
  simp only [← EReal.coe_mul, ← coe_sum]
  rw [sqrt_real (Finset.sum_nonneg fun k _ => mul_self_nonneg _), max_real,
    div_real _ (lt_of_lt_of_le hpos (le_max_right _ _)).ne', div_real _ (by norm_num), div_real _ (by norm_num)]
  rw [← EReal.coe_zero, ← EReal.coe_sub, ← EReal.coe_mul, ← EReal.coe_add]

/-- The mean row at real rows. -/
def av (k : Fin 256) : ℝ := (∑ j, x (row j) k) / 33

theorem avg_real (k : Fin 256) : avg (fun j k => (x (row j) k : EReal)) k = ((av x row k : ℝ) : EReal) := by
  unfold avg av
  rw [← coe_sum, c_33, div_real _ (by norm_num)]

theorem lengths_real (j : Fin 33) : lengths (fun j k => (x (row j) k : EReal)) j
    = ((Real.sqrt (sq x (row j)) * Real.sqrt (∑ k, av x row k * av x row k) : ℝ) : EReal) := by
  unfold lengths
  rw [coe_sq]
  simp only [avg_real, ← EReal.coe_mul, ← coe_sum]
  rw [sqrt_real (sq_nonneg x _), sqrt_real (Finset.sum_nonneg fun k _ => mul_self_nonneg _), ← EReal.coe_mul]

def rtermr : ℝ :=
  200 * -((∑ j, (∑ k, x (row j) k * av x row k)
      / max (Real.sqrt (sq x (row j)) * Real.sqrt (∑ k, av x row k * av x row k)) (11258999 / 2 ^ 50)) / 33)
    + 1 * ((∑ j, -(1 / 2) * Real.log (1 + 320 * sq x (row j))) / 33)

theorem rterm_real : rterm (fun j k => (x (row j) k : EReal)) = ((rtermr x row : ℝ) : EReal) := by
  have hpos : (0 : ℝ) < 11258999 / 2 ^ 50 := by norm_num
  have hd : ∀ j : Fin 33, Ideal.div (((∑ k, x (row j) k * av x row k : ℝ)) : EReal)
      ((max (Real.sqrt (sq x (row j)) * Real.sqrt (∑ k, av x row k * av x row k)) (11258999 / 2 ^ 50) : ℝ) : EReal)
      = (((∑ k, x (row j) k * av x row k)
      / max (Real.sqrt (sq x (row j)) * Real.sqrt (∑ k, av x row k * av x row k)) (11258999 / 2 ^ 50) : ℝ) : EReal) := fun j =>
    div_real _ (lt_of_lt_of_le hpos (le_max_right _ _)).ne'
  unfold rterm rtermr
  simp only [lengths_real, avg_real, coe_sq, c_200, c_33, c_320, c_half, c_e8, max_real]
  simp only [← EReal.coe_mul]
  simp only [log1p_real (mul_nonneg (by norm_num : (0:ℝ) ≤ 320) (sq_nonneg x _))]
  simp only [← EReal.coe_mul, ← coe_sum, hd]
  rw [div_real _ (by norm_num), div_real _ (by norm_num), ← EReal.coe_one]
  rw [← EReal.coe_neg, ← EReal.coe_mul, ← EReal.coe_mul, ← EReal.coe_add]

variable {x a row}

theorem termr_eq (hs : ∀ g : Fin 8192 → ℝ, ∑ j, g (row j) = ∑ i, a i * g i)
    (hc : ∀ j, 11258999 / 2 ^ 50 ≤ Real.sqrt (sq x (row j)) * Real.sqrt (∑ k, av x row k * av x row k))
    (hb : ∀ i k, |x i k| ≤ 2 * 10 ^ 14) : termr x a = rtermr x row := by
  have hav : ∀ k, av x row k = zr x a k / 33 := fun k => by unfold av zr; rw [hs fun i => x i k]
  set Z := Real.sqrt (∑ k, zr x a k * zr x a k) with hZ
  have hna : Real.sqrt (∑ k, av x row k * av x row k) = Z / 33 := by
    have h1 : ∑ k, av x row k * av x row k = (∑ k, zr x a k * zr x a k) / 33 ^ 2 := by
      rw [Finset.sum_div]
      exact Finset.sum_congr rfl fun k _ => by rw [hav]; ring
    rw [h1, Real.sqrt_div' _ (by norm_num), Real.sqrt_sq (by norm_num)]
  simp only [hna] at hc
  have hZ0 : 0 ≤ Z := Real.sqrt_nonneg _
  have hlen : ∀ i, Real.sqrt (sq x i) ≤ 4 * 10 ^ 15 := fun i => by
    rw [show (4 * 10 ^ 15 : ℝ) = Real.sqrt ((4 * 10 ^ 15) ^ 2) from (Real.sqrt_sq (by norm_num)).symm]
    apply Real.sqrt_le_sqrt
    unfold sq
    have : ∑ k : Fin 256, x i k * x i k ≤ ∑ _k : Fin 256, (2 * 10 ^ 14 : ℝ) * (2 * 10 ^ 14) := Finset.sum_le_sum fun k _ => by
      have := abs_le.mp (hb i k)
      nlinarith [this.1, this.2]
    refine this.trans ?_
    rw [Finset.sum_const, Finset.card_univ, Fintype.card_fin]
    norm_num
  have hZlow : (10633824 / 2 ^ 123 : ℝ) ≤ Z := by
    have h1 := hc 0
    have h2 : Real.sqrt (sq x (row 0)) * (Z / 33) ≤ 4 * 10 ^ 15 * (Z / 33) := mul_le_mul_of_nonneg_right (hlen _) (by positivity)
    have h3 : (11258999 / 2 ^ 50 : ℝ) ≤ 4 * 10 ^ 15 * (Z / 33) := h1.trans h2
    have h4 : (10633824 / 2 ^ 123 : ℝ) * (4 * 10 ^ 15 / 33) ≤ 11258999 / 2 ^ 50 := by norm_num
    nlinarith [h3, h4]
  have hZpos : 0 < Z := lt_of_lt_of_le (by norm_num) hZlow
  have hrow : ∀ j, (∑ k, x (row j) k * av x row k) / max (Real.sqrt (sq x (row j)) * (Z / 33)) (11258999 / 2 ^ 50)
      = (fun i => (Real.sqrt (sq x i))⁻¹ * (∑ k, x i k * zr x a k) / Z) (row j) := fun j => by
    rw [max_eq_left (hc j)]
    have hlp : 0 < Real.sqrt (sq x (row j)) := by
      rcases eq_or_lt_of_le (Real.sqrt_nonneg (sq x (row j))) with h | h
      · have := hc j; rw [← h] at this; norm_num at this
      · exact h
    have h1 : ∑ k, x (row j) k * av x row k = (∑ k, x (row j) k * zr x a k) / 33 := by
      rw [Finset.sum_div]
      exact Finset.sum_congr rfl fun k _ => by rw [hav]; ring
    rw [h1]
    show _ = (Real.sqrt (sq x (row j)))⁻¹ * (∑ k, x (row j) k * zr x a k) / Z
    field_simp
  have hyz : ∑ k, (∑ i, a i * (Real.sqrt (sq x i))⁻¹ * x i k) * zr x a k
      = ∑ i, a i * ((Real.sqrt (sq x i))⁻¹ * ∑ k, x i k * zr x a k) := by
    simp only [Finset.sum_mul, Finset.mul_sum]
    rw [Finset.sum_comm]
    exact Finset.sum_congr rfl fun i _ => Finset.sum_congr rfl fun k _ => by ring
  unfold termr rtermr
  rw [← hZ, max_eq_left hZlow, hna]
  simp only [hrow]
  rw [hs fun i => (Real.sqrt (sq x i))⁻¹ * (∑ k, x i k * zr x a k) / Z, hs fun i => -(1 / 2) * Real.log (1 + 320 * sq x i), hyz, Finset.sum_div]
  simp only [mul_div_assoc]
  ring

/-- The kernel's term is the reference's. -/
theorem kterm_eq_rterm {X : Fin 8192 → Fin 256 → EReal} {A : Fin 8192 → EReal} (hX : ∀ i k, X i k = (x i k : EReal)) (hA : ∀ i, A i = (a i : EReal))
    (hs : ∀ g : Fin 8192 → ℝ, ∑ j, g (row j) = ∑ i, a i * g i)
    (hc : ∀ j, Ideal.ofBits .f32 841731191#32 ≤ lengths (fun j => X (row j)) j)
    (hb : ∀ i k, |x i k| ≤ 2 * 10 ^ 14) :
    kterm X A (fun i => ∑ k, X i k * X i k) = rterm fun j => X (row j) := by
  obtain rfl : X = fun i k => (x i k : EReal) := funext fun i => funext fun k => hX i k
  obtain rfl : A = fun i => (a i : EReal) := funext hA
  simp only [coe_sq]
  rw [kterm_real]
  refine Eq.trans ?_ (rterm_real x row).symm
  rw [EReal.coe_eq_coe_iff]
  refine termr_eq hs (fun j => ?_) hb
  have := hc j
  rw [lengths_real x row j, c_e8] at this
  exact_mod_cast this

end Cert.Terms

end
-- ==== Proof.Spec.lean ====
/- The sampling and the neighbourhoods, in plain terms: a cloud's points `p`, the points sampled one after the other, the
   thirty-two nearest of a point, and each point's multiplicity among a neighbourhood's thirty-three rows. -/
module

public import proofs.«01_k».proof.Proof.Order
public import proofs.«01_k».proof.Proof.Terms

@[expose] public section

set_option maxRecDepth 16384

noncomputable section

namespace Cert.Spec

open Idealize.ShloMosaic Cert.Consts Cert.Order Cert.Terms Classical

/-- The squared distance of two points, as a sum of squared differences. -/
def gap (p : Fin 8192 → Fin 3 → EReal) (f i : Fin 8192) : EReal :=
  ((p i 0 - p f 0) * (p i 0 - p f 0) + (p i 1 - p f 1) * (p i 1 - p f 1)) + (p i 2 - p f 2) * (p i 2 - p f 2)

/-- A point's squared length. -/
def norm2 (p : Fin 8192 → Fin 3 → EReal) (i : Fin 8192) : EReal := (p i 0 * p i 0 + p i 1 * p i 1) + p i 2 * p i 2

/-- The squared distance of two points, as the neighbour search computes it. -/
def dist (p : Fin 8192 → Fin 3 → EReal) (c i : Fin 8192) : EReal :=
  (norm2 p c + norm2 p i) - Ideal.ofBits .f32 1073741824#32 * ((p c 0 * p i 0 + p c 1 * p i 1) + p c 2 * p i 2)

/-- The least squared distances to the points sampled so far, and the point sampled next. -/
def sample (p : Fin 8192 → Fin 3 → EReal) : ℕ → (Fin 8192 → EReal) × Fin 8192
  | 0 => (fun _ => Ideal.ofBits .f32 1343554297#32, 0)
  | s + 1 => (fun i => min ((sample p s).1 i) (gap p (sample p s).2 i),
      nth (fun i => min ((sample p s).1 i) (gap p (sample p s).2 i)) 0 (by norm_num))

theorem sample_zero (p : Fin 8192 → Fin 3 → EReal) : sample p 0 = (fun _ => Ideal.ofBits .f32 1343554297#32, 0) := by unfold sample; rfl
theorem sample_dist (p : Fin 8192 → Fin 3 → EReal) (s : ℕ) (i : Fin 8192) :
    (sample p (s + 1)).1 i = min ((sample p s).1 i) (gap p (sample p s).2 i) := by rw [sample]
theorem rank_next (p : Fin 8192 → Fin 3 → EReal) (s : ℕ) : rank (sample p (s + 1)).1 (sample p (s + 1)).2 = 0 := by
  rw [sample]; dsimp only; exact rank_nth (fun i => min ((sample p s).1 i) (gap p (sample p s).2 i)) 0 (by norm_num)

/-- How near a point is: the greater the nearer. -/
def nearness (p : Fin 8192 → Fin 3 → EReal) (c i : Fin 8192) : EReal := -dist p c i

/-- A neighbourhood's rows: the thirty-two nearest points, then the point itself. -/
def rows (p : Fin 8192 → Fin 3 → EReal) (c : Fin 8192) (j : Fin 33) : Fin 8192 :=
  if h : j.val < 32 then nth (nearness p c) j.val (by omega) else c

/-- A point's multiplicity in a neighbourhood. -/
def mult (p : Fin 8192 → Fin 3 → EReal) (c i : Fin 8192) : EReal :=
  (if rank (nearness p c) i < 32 then 1 else 0) + if i = c then 1 else 0

/-- The same as a real number. -/
def multr (p : Fin 8192 → Fin 3 → EReal) (c i : Fin 8192) : ℝ :=
  (if rank (nearness p c) i < 32 then 1 else 0) + if i = c then 1 else 0

theorem mult_real (p : Fin 8192 → Fin 3 → EReal) (c i : Fin 8192) : mult p c i = ((multr p c i : ℝ) : EReal) := by
  unfold mult multr
  rw [EReal.coe_add]
  congr 1 <;> split <;> norm_num

theorem sum_rows (p : Fin 8192 → Fin 3 → EReal) (c : Fin 8192) (g : Fin 8192 → ℝ) :
    ∑ j, g (rows p c j) = ∑ i, multr p c i * g i := by
  rw [Fin.sum_univ_castSucc]
  have h1 : ∀ j : Fin 32, rows p c j.castSucc = nth (nearness p c) j.val (lt_of_lt_of_le j.isLt (by norm_num)) := fun j => by
    unfold rows
    rw [dif_pos (show (Fin.castSucc j).val < 32 from j.isLt)]
    rfl
  have h2 : rows p c (Fin.last 32) = c := by
    unfold rows
    rw [dif_neg (by simp)]
  simp only [h1, h2]
  rw [sum_nth (nearness p c) 32 (by norm_num) g]
  unfold multr
  simp only [add_mul, ite_mul, one_mul, zero_mul, Finset.sum_add_distrib]
  rw [Finset.sum_ite_eq' Finset.univ c g, if_pos (Finset.mem_univ _)]

/-- The kernel's term at a sampled point. -/
def kt (p : Fin 8192 → Fin 3 → EReal) (X : Fin 8192 → Fin 256 → EReal) (c : Fin 8192) : EReal :=
  kterm X (mult p c) fun i => ∑ k, X i k * X i k

/-- The reference's term at a sampled point. -/
def rt (p : Fin 8192 → Fin 3 → EReal) (X : Fin 8192 → Fin 256 → EReal) (c : Fin 8192) : EReal :=
  rterm fun j => X (rows p c j)

theorem kt_eq_rt {p : Fin 8192 → Fin 3 → EReal} {X : Fin 8192 → Fin 256 → EReal} {c : Fin 8192} {x : Fin 8192 → Fin 256 → ℝ}
    (hX : ∀ i k, X i k = (x i k : EReal)) (hb : ∀ i k, |x i k| ≤ 2 * 10 ^ 14)
    (hc : ∀ j, Ideal.ofBits .f32 841731191#32 ≤ lengths (fun j => X (rows p c j)) j) : kt p X c = rt p X c :=
  kterm_eq_rterm hX (mult_real p c) (sum_rows p c) hc hb

/-- Coordinates that are not too large leave every squared distance below the value that overwrites. -/
theorem dist_lt {p : Fin 8192 → Fin 3 → EReal} {q : Fin 8192 → Fin 3 → ℝ} (hp : ∀ i d, p i d = (q i d : EReal))
    (hb : ∀ i d, |q i d| ≤ 11 / 10 * 10 ^ 14) (c i : Fin 8192) : dist p c i < Ideal.ofBits .f32 1900671690#32 := by
  unfold dist norm2
  simp only [hp, c_two, c_big, ← EReal.coe_mul, ← EReal.coe_add, ← EReal.coe_sub]
  rw [EReal.coe_lt_coe_iff]
  have hsq : ∀ a b : ℝ, |a| ≤ 11 / 10 * 10 ^ 14 → |b| ≤ 11 / 10 * 10 ^ 14 → a * a + b * b - 2 * (a * b) ≤ 4 * (11 / 10 * 10 ^ 14) ^ 2 := fun a b ha hb => by
    have ha := abs_le.mp ha; have hb := abs_le.mp hb
    nlinarith [ha.1, ha.2, hb.1, hb.2]
  have h0 := hsq _ _ (hb c 0) (hb i 0)
  have h1 := hsq _ _ (hb c 1) (hb i 1)
  have h2 := hsq _ _ (hb c 2) (hb i 2)
  norm_num at h0 h1 h2 ⊢
  linarith

end Cert.Spec

end
-- ==== Proof.Clouds.lean ====
/- The eight clouds: the four of each side stacked, their points and their features. -/
module

public import proofs.«01_k».proof.Proof.Spec

@[expose] public section

set_option maxRecDepth 16384

noncomputable section

namespace Cert.Clouds

open Idealize.ShloMosaic
open Cert.Consts Cert.Order Cert.Spec Cert.Terms

/-- The four clouds of one side, then the four of the other. -/
def stack {n : ℕ} (a b : Fin 4 → Fin 8192 → Fin n → EReal) (r : Fin 8) (i : Fin 8192) (d : Fin n) : EReal :=
  if h : r.val < 4 then a ⟨r.val, h⟩ i d else b ⟨r.val - 4, by omega⟩ i d

/-- The cosine of two feature rows, its denominator kept from zero. -/
def cos (x y : Fin 256 → EReal) : EReal :=
  Ideal.div (∑ k, x k * y k) (max (Ideal.sqrt (∑ k, x k * x k) * Ideal.sqrt (∑ k, y k * y k)) (Ideal.ofBits .f32 841731191#32))

/-- The running mean over the batch: after each pair of clouds the sum is divided by 512; at the end by 4. -/
def chain (t u : Fin 4 → EReal) : EReal :=
  let g0 := Ideal.div (t 0 + u 0) (Ideal.ofBits .f32 1140850688#32)
  let g1 := Ideal.div (g0 + t 1 + u 1) (Ideal.ofBits .f32 1140850688#32)
  let g2 := Ideal.div (g1 + t 2 + u 2) (Ideal.ofBits .f32 1140850688#32)
  let g3 := Ideal.div (g2 + t 3 + u 3) (Ideal.ofBits .f32 1140850688#32)
  Ideal.div g3 (Ideal.ofBits .f32 1082130432#32)

/-- The similarity's part, and the neighbourhoods' part twice. -/
def tail (v : EReal) (t u : Fin 4 → EReal) : EReal := v + chain t u + chain t u

/-- The kernel's total of a cloud: the terms at its 512 sampled points. -/
def total (P : Fin 8 → Fin 8192 → Fin 3 → EReal) (X : Fin 8 → Fin 8192 → Fin 256 → EReal) (r : Fin 8) : EReal :=
  ∑ s ∈ Finset.range 512, kt (P r) (X r) (sample (P r) s).2

/-- The kernel's result. -/
def loss (A0 A1 : Fin 4 → Fin 8192 → Fin 256 → EReal) (A2 A3 : Fin 4 → Fin 8192 → Fin 3 → EReal) : EReal :=
  let t : Fin 4 → EReal := fun b => total (stack A2 A3) (stack A0 A1) ⟨b.val, by omega⟩
  let u : Fin 4 → EReal := fun b => total (stack A2 A3) (stack A0 A1) ⟨4 + b.val, by omega⟩;
  tail (-Ideal.div (∑ b : Fin 4, ∑ i : Fin 8192, cos (A0 b i) (A1 b i)) (Ideal.ofBits .f32 1191182336#32)) t u

theorem sum_mul_coe {ι : Type} (s : Finset ι) (f : ι → EReal) {r : ℝ} (h : 0 ≤ r) : ∑ i ∈ s, f i * (r : EReal) = (∑ i ∈ s, f i) * (r : EReal) := by
  classical
  induction s using Finset.induction with
  | empty => simp
  | insert a s ha ih =>
    rw [Finset.sum_insert ha, Finset.sum_insert ha, ih]
    exact (EReal.right_distrib_of_nonneg_of_ne_top (EReal.coe_nonneg.mpr h) (EReal.coe_ne_top r) _ _).symm

/-- The mean of the means is the mean. -/
theorem mean_mean (g : Fin 4 → Fin 8192 → EReal) :
    Ideal.div (∑ b, Ideal.div (∑ i, g b i) (Ideal.ofBits .f32 1174405120#32)) (Ideal.ofBits .f32 1082130432#32)
      = Ideal.div (∑ b, ∑ i, g b i) (Ideal.ofBits .f32 1191182336#32) := by
  rw [c_8192, c_4, c_32768, Ideal.div_coe (by norm_num), Ideal.div_coe (by norm_num)]
  simp only [Ideal.div_coe (show (8192 : ℝ) ≠ 0 by norm_num)]
  rw [sum_mul_coe _ _ (by norm_num), mul_assoc, ← EReal.coe_mul]
  norm_num

end Cert.Clouds

end
-- ==== Proof.HostValue.lean ====
/- The host operations between the kernel's calls, read at an index. -/
module

public import proofs.«01_k».proof.Proof.Gen.KernelIdeal.Launch
public import proofs.«01_k».proof.Proof.Clouds
public import Idealize.ShloMosaic.Lib.Pointwise
public import Idealize.ShloMosaic.Lib.Pipeline.ValueKit
public import Idealize.ShloMosaic.Lib.StableHlo.RunRead

@[expose] public section

set_option maxRecDepth 16384

noncomputable section

namespace Cert.KernelIdeal.HostValue

open Cert.KernelIdeal Cert.KernelIdeal.Gen
open Idealize.ShloMosaic Idealize.ShloMosaic.TcCoe Idealize.ShloMosaic.Tactic
open Cert.Consts

variable (W : Valuation τ sig (Elt Ideal))

theorem v8 (r : Fin 8) (i : Fin 8192) : StableHlo.after hostOps1 W (Proc.devRef .tc main_v8) (ix2 r i)
    = if h : r.val < 4 then W (Proc.devRef .tc main_arg2) (ix3 (⟨r.val, h⟩ : Fin 4) i (0 : Fin 3))
      else W (Proc.devRef .tc main_arg3) (ix3 (⟨r.val - 4, by omega⟩ : Fin 4) i (0 : Fin 3)) := by
  after_reads_simp
  pointwise

theorem v13 (r : Fin 8) (i : Fin 8192) : StableHlo.after hostOps1 W (Proc.devRef .tc main_v13) (ix2 r i)
    = if h : r.val < 4 then W (Proc.devRef .tc main_arg2) (ix3 (⟨r.val, h⟩ : Fin 4) i (1 : Fin 3))
      else W (Proc.devRef .tc main_arg3) (ix3 (⟨r.val - 4, by omega⟩ : Fin 4) i (1 : Fin 3)) := by
  after_reads_simp
  pointwise

theorem v18 (r : Fin 8) (i : Fin 8192) : StableHlo.after hostOps1 W (Proc.devRef .tc main_v18) (ix2 r i)
    = if h : r.val < 4 then W (Proc.devRef .tc main_arg2) (ix3 (⟨r.val, h⟩ : Fin 4) i (2 : Fin 3))
      else W (Proc.devRef .tc main_arg3) (ix3 (⟨r.val - 4, by omega⟩ : Fin 4) i (2 : Fin 3)) := by
  after_reads_simp
  pointwise

theorem v3 : StableHlo.after hostOps1 W (Proc.devRef .tc main_v3) ix0
    = -Ideal.div (W (Proc.devRef .tc main_v0_0) (ix3 (0 : Fin 1) (0 : Fin 1) (0 : Fin 1))) (Ideal.ofBits .f32 1191182336#32) := by
  after_reads_simp
  pointwise

theorem v21 (t : Fin 16) (q : Fin 128) : StableHlo.after hostOps2 W (Proc.devRef .tc main_v21) (ix3 t q (0 : Fin 1))
    = W (Proc.devRef .tc main_v19) (ix2 (⟨t.val / 4, by omega⟩ : Fin 8) (⟨t.val % 4 * 128 + q.val, by omega⟩ : Fin 512)) := by
  after_reads_simp
  pointwise

theorem v25 (b : Fin 4) (i : Fin 8192) : StableHlo.after hostOps2 W (Proc.devRef .tc main_v25) (ix3 b (0 : Fin 1) i)
    = W (Proc.devRef .tc main_v8) (ix2 (⟨b.val, by omega⟩ : Fin 8) i) := by
  after_reads_simp
  pointwise

theorem v27 (b : Fin 4) (i : Fin 8192) : StableHlo.after hostOps2 W (Proc.devRef .tc main_v27) (ix3 b (0 : Fin 1) i)
    = W (Proc.devRef .tc main_v13) (ix2 (⟨b.val, by omega⟩ : Fin 8) i) := by
  after_reads_simp
  pointwise

theorem v29 (b : Fin 4) (i : Fin 8192) : StableHlo.after hostOps2 W (Proc.devRef .tc main_v29) (ix3 b (0 : Fin 1) i)
    = W (Proc.devRef .tc main_v18) (ix2 (⟨b.val, by omega⟩ : Fin 8) i) := by
  after_reads_simp
  pointwise

theorem v30 (b : Fin 4) (i : Fin 8192) : StableHlo.after hostOps2 W (Proc.devRef .tc main_v30) (ix3 b (0 : Fin 1) i)
    = W (Proc.devRef .tc main_v0_1) (ix3 b i (0 : Fin 1)) := by
  after_reads_simp
  pointwise

theorem v23 (t : Fin 16) (q : Fin 128) : StableHlo.after hostOps2 W (Proc.devRef .tc main_v23) (ix3 t q (0 : Fin 1))
    = W (Proc.devRef .tc main_v19) (ix2 (⟨4 + t.val / 4, by omega⟩ : Fin 8) (⟨t.val % 4 * 128 + q.val, by omega⟩ : Fin 512)) := by
  after_reads_simp
  pointwise

theorem v34 (b : Fin 4) (i : Fin 8192) : StableHlo.after hostOps3 W (Proc.devRef .tc main_v34) (ix3 b (0 : Fin 1) i)
    = W (Proc.devRef .tc main_v8) (ix2 (⟨4 + b.val, by omega⟩ : Fin 8) i) := by
  after_reads_simp
  pointwise

theorem v36 (b : Fin 4) (i : Fin 8192) : StableHlo.after hostOps3 W (Proc.devRef .tc main_v36) (ix3 b (0 : Fin 1) i)
    = W (Proc.devRef .tc main_v13) (ix2 (⟨4 + b.val, by omega⟩ : Fin 8) i) := by
  after_reads_simp
  pointwise

theorem v38 (b : Fin 4) (i : Fin 8192) : StableHlo.after hostOps3 W (Proc.devRef .tc main_v38) (ix3 b (0 : Fin 1) i)
    = W (Proc.devRef .tc main_v18) (ix2 (⟨4 + b.val, by omega⟩ : Fin 8) i) := by
  after_reads_simp
  pointwise

theorem v39 (b : Fin 4) (i : Fin 8192) : StableHlo.after hostOps3 W (Proc.devRef .tc main_v39) (ix3 b (0 : Fin 1) i)
    = W (Proc.devRef .tc main_v0_2) (ix3 b i (0 : Fin 1)) := by
  after_reads_simp
  pointwise

theorem v32 (b : Fin 4) : StableHlo.after hostOps3 W (Proc.devRef .tc main_v32) (ix1 b)
    = W (Proc.devRef .tc main_v31) (ix3 b (0 : Fin 1) (0 : Fin 1)) := by
  after_reads_simp
  pointwise

theorem v72 : StableHlo.after hostOps4 W (Proc.devRef .tc main_v72) ix0
    = Cert.Clouds.tail (W (Proc.devRef .tc main_v3) ix0) (fun b => W (Proc.devRef .tc main_v32) (ix1 b))
        (fun b => W (Proc.devRef .tc main_v40) (ix3 b (0 : Fin 1) (0 : Fin 1))) := by
  after_reads_simp
  pointwise [Cert.Clouds.tail, Cert.Clouds.chain]

end Cert.KernelIdeal.HostValue

end
-- ==== Proof.StatsValue.lean ====
/- What the first call leaves: the sum of all points' similarities, and every point's squared length on either side. -/
module

public import proofs.«01_k».proof.Proof.Stats
public import proofs.«01_k».proof.Proof.Clouds
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.StatsValue

open Cert.Clouds (cos)

open Cert.KernelIdeal Cert.KernelIdeal.Gen
open Idealize.ShloMosaic Idealize.ShloMosaic.TcCoe Idealize.ShloMosaic.Tactic
open Cert.Consts

theorem pay6 (v0 v2 : FVec Ideal S1x1024x256 .f32) : k0_pay6 (F := Ideal) v0 v2
    = ∑ i : Fin 1024, cos (fun k => v0 (ix3 (0 : Fin 1) i k)) (fun k => v2 (ix3 (0 : Fin 1) i k)) := by
  pointwise [k0_pay6, k0_pay2, k0_pay3, k0_pay4, k0_pay5]
  exact Finset.sum_congr rfl fun i _ => Fin.sum_univ_one _

variable (V : (c : Dev nD) → (b : Ref sig .tc) → Buf (Elt Ideal) ((c : Thread nD τ).loc b)) (c : Dev nD)

theorem idx0 : ∀ t : Fin grid0.N, win0_0.index t = ![t.val / 8, t.val % 8, 0] ∧ win0_1.index t = ![t.val / 8, t.val % 8, 0]
    ∧ win0_2.index t = ![0, 0, 0] ∧ win0_3.index t = ![t.val / 8, t.val % 8, 0] ∧ win0_4.index t = ![t.val / 8, t.val % 8, 0] := by decide +kernel

theorem flush2 : ∀ t : Fin cfg0.N, (cfg0.win 2).flush t = true → t.val + 1 = cfg0.N := by decide +kernel

/-- The point's batch, and its `i`-th row. -/
def bat (t : Fin cfg0.N) : Fin 4 := ⟨t.val / 8, by have : t.val < 32 := Nat.lt_of_lt_of_eq t.isLt N_0; omega⟩
def row (t : Fin cfg0.N) (i : Fin 1024) : Fin 8192 := ⟨t.val % 8 * 1024 + i.val, by omega⟩

/-- The two sides' rows. -/
def X0 (b : Fin 4) (i : Fin 8192) (k : Fin 256) : EReal := V c main_arg0 (ix3 b i k)
def X1 (b : Fin 4) (i : Fin 8192) (k : Fin 256) : EReal := V c main_arg1 (ix3 b i k)

theorem blk0 (t : Fin cfg0.N) (i : Fin 1024) (k : Fin 256) : Stats.iblk V c 0 t (ix3 (0 : Fin 1) i k) = X0 V c (bat t) (row t i) k := by
  unfold X0 bat row; blk_ext [Stats.iblk, idx0 t]
theorem blk1 (t : Fin cfg0.N) (i : Fin 1024) (k : Fin 256) : Stats.iblk V c 1 t (ix3 (0 : Fin 1) i k) = X1 V c (bat t) (row t i) k := by
  unfold X1 bat row; blk_ext [Stats.iblk, idx0 t]

theorem pay7 (v : FVec Ideal S1x1024x256 .f32) (i : Fin 1024) :
    k0_pay7 (F := Ideal) v (ix3 (0 : Fin 1) i (0 : Fin 1)) = ∑ k : Fin 256, v (ix3 (0 : Fin 1) i k) * v (ix3 (0 : Fin 1) i k) := by
  pointwise [k0_pay7, k0_pay4, k0_pay2]
theorem pay8 (v : FVec Ideal S1x1024x256 .f32) (i : Fin 1024) :
    k0_pay8 (F := Ideal) v (ix3 (0 : Fin 1) i (0 : Fin 1)) = ∑ k : Fin 256, v (ix3 (0 : Fin 1) i k) * v (ix3 (0 : Fin 1) i k) := by
  pointwise [k0_pay8, k0_pay5, k0_pay3]
theorem pay9 (v0 v2 : FVec Ideal S1x1024x256 .f32) :
    k0_pay9 (F := Ideal) v0 v2 (ix3 (0 : Fin 1) (0 : Fin 1) (0 : Fin 1)) = k0_pay6 (F := Ideal) v0 v2 := by
  unfold k0_pay9
  generalize k0_pay6 (F := Ideal) v0 v2 = e
  pointwise
theorem pay1 (e : EReal) (w : FVec Ideal S1x1x1 .f32) :
    k0_pay1 (F := Ideal) e w (ix3 (0 : Fin 1) (0 : Fin 1) (0 : Fin 1)) = w (ix3 (0 : Fin 1) (0 : Fin 1) (0 : Fin 1)) + e := by
  pointwise [k0_pay1]

/-- The squared lengths a point leaves. -/
theorem outs3 (t : Fin cfg0.N) (i : Fin 1024) : (Stats.outsAt0 V c t.val t.isLt).2.1 (ix3 (0 : Fin 1) i (0 : Fin 1))
    = ∑ k : Fin 256, X0 V c (bat t) (row t i) k * X0 V c (bat t) (row t i) k := by
  have h : t.val < 32 := Nat.lt_of_lt_of_eq t.isLt N_0
  simp only [← blk0]
  refine Eq.trans ?_ (pay7 (Stats.iblk V c 0 t) i)
  by_cases h0 : t.val % 32 = 0
  · rw [Stats.outsAt0_A V c t h0 (by omega)]
    frame_out
  · rw [Stats.outsAt0_B V c t h0 (by omega)]
    frame_out

theorem outs4 (t : Fin cfg0.N) (i : Fin 1024) : (Stats.outsAt0 V c t.val t.isLt).2.2 (ix3 (0 : Fin 1) i (0 : Fin 1))
    = ∑ k : Fin 256, X1 V c (bat t) (row t i) k * X1 V c (bat t) (row t i) k := by
  have h : t.val < 32 := Nat.lt_of_lt_of_eq t.isLt N_0
  simp only [← blk1]
  refine Eq.trans ?_ (pay8 (Stats.iblk V c 1 t) i)
  by_cases h0 : t.val % 32 = 0
  · rw [Stats.outsAt0_A V c t h0 (by omega)]
    frame_out
  · rw [Stats.outsAt0_B V c t h0 (by omega)]
    frame_out

/-- A point's similarities. -/
def part (t : Fin cfg0.N) : EReal := ∑ i : Fin 1024, cos (X0 V c (bat t) (row t i)) (X1 V c (bat t) (row t i))

theorem part_eq (t : Fin cfg0.N) : k0_pay6 (F := Ideal) (Stats.iblk V c 0 t) (Stats.iblk V c 1 t) = part V c t := by
  rw [pay6]
  unfold part
  simp only [blk0, blk1]

theorem outs2 (t : Fin cfg0.N) (j : S1x1x1.Idx) :
    (Stats.outsAt0 V c t.val t.isLt).1 j = ∑ k ∈ Finset.range (t.val + 1), if h : k < cfg0.N then part V c ⟨k, h⟩ else 0 := by
  have := Pipeline.eq_sum_of_reset_step_apply_single (fun n h => (Stats.outsAt0 V c n h).1) 32 (fun _ => (0 : EReal))
    (fun k _ => if h : k < cfg0.N then part V c ⟨k, h⟩ else 0)
    (fun t h j => by
      have hj : j = ix3 (0 : Fin 1) (0 : Fin 1) (0 : Fin 1) := by idx_vars j; blk_ext
      have ht : t.val < 32 := Nat.lt_of_lt_of_eq t.isLt N_0
      rw [zero_add, dif_pos t.isLt, ← part_eq, Stats.outsAt0_A V c t h (by omega)]
      frame_out
      rw [hj]
      exact pay9 _ _)
    (fun t h j => by
      have hj : j = ix3 (0 : Fin 1) (0 : Fin 1) (0 : Fin 1) := by idx_vars j; blk_ext
      have ht : t.val < 32 := Nat.lt_of_lt_of_eq t.isLt N_0
      rw [dif_pos t.isLt, ← part_eq, Stats.outsAt0_B V c t h (by omega)]
      frame_out
      rw [hj]
      exact pay1 _ _) (Nat.le_of_eq N_0) t j
  rw [this, zero_add]

theorem arr3 (b : Fin 4) (i : Fin 8192) : (Stats.dat V c).arrAt 3 cfg0.N (ix3 b i (0 : Fin 1)) = ∑ k : Fin 256, X0 V c b i k * X0 V c b i k := by
  have : (Stats.dat V c).arrAt 3 cfg0.N = fun j => ∑ k : Fin 256, X0 V c (j 0) (j 1) k * X0 V c (j 0) (j 1) k := by
    refine (Stats.dat V c).arrAt_eq_of_covers 3 _ (by decide +kernel) fun t hfl y => ?_
    idx_vars y
    blk_simp
    rw [Stats.after0_3]
    have h0 : (win0_3.blk t).view.emb (ix3 y0 y1 y2) 0 = bat t := by
      apply Fin.ext
      unfold bat
      blk_simp [idx0 t]
    have h1 : (win0_3.blk t).view.emb (ix3 y0 y1 y2) 1 = row t y1 := by
      apply Fin.ext
      unfold row
      blk_simp [idx0 t]
    rw [h0, h1, show y0 = (0 : Fin 1) from Subsingleton.elim _ _, show y2 = (0 : Fin 1) from Subsingleton.elim _ _]
    exact outs3 V c t y1
  rw [this]
  rfl

theorem arr4 (b : Fin 4) (i : Fin 8192) : (Stats.dat V c).arrAt 4 cfg0.N (ix3 b i (0 : Fin 1)) = ∑ k : Fin 256, X1 V c b i k * X1 V c b i k := by
  have : (Stats.dat V c).arrAt 4 cfg0.N = fun j => ∑ k : Fin 256, X1 V c (j 0) (j 1) k * X1 V c (j 0) (j 1) k := by
    refine (Stats.dat V c).arrAt_eq_of_covers 4 _ (by decide +kernel) fun t hfl y => ?_
    idx_vars y
    blk_simp
    rw [Stats.after0_4]
    have h0 : (win0_4.blk t).view.emb (ix3 y0 y1 y2) 0 = bat t := by
      apply Fin.ext
      unfold bat
      blk_simp [idx0 t]
    have h1 : (win0_4.blk t).view.emb (ix3 y0 y1 y2) 1 = row t y1 := by
      apply Fin.ext
      unfold row
      blk_simp [idx0 t]
    rw [h0, h1, show y0 = (0 : Fin 1) from Subsingleton.elim _ _, show y2 = (0 : Fin 1) from Subsingleton.elim _ _]
    exact outs4 V c t y1
  rw [this]
  rfl

theorem arr2 : (Stats.dat V c).arrAt 2 cfg0.N (ix3 (0 : Fin 1) (0 : Fin 1) (0 : Fin 1)) = ∑ t : Fin cfg0.N, part V c t := by
  have : (Stats.dat V c).arrAt 2 cfg0.N = fun _ => ∑ t : Fin cfg0.N, part V c t := by
    refine (Stats.dat V c).arrAt_eq_of_covers 2 _ (by decide +kernel) fun t hfl y => ?_
    blk_simp
    rw [Stats.after0_2]
    refine (outs2 V c t y).trans ?_
    rw [flush2 t hfl, Finset.sum_range]
    exact Finset.sum_congr rfl fun k _ => dif_pos k.isLt
  rw [this]

end Cert.KernelIdeal.StatsValue

end
-- ==== Proof.FpsValue.lean ====
/- What the sampling call leaves: row by row, the points sampled one after the other. -/
module

public import proofs.«01_k».proof.Proof.Fps
public import proofs.«01_k».proof.Proof.Spec
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.FpsValue

open Cert.KernelIdeal Cert.KernelIdeal.Gen
open Idealize.ShloMosaic Idealize.ShloMosaic.TcCoe Idealize.ShloMosaic.Tactic
open Cert.Consts Cert.Order Cert.Spec

/-- What holds after every trip holds of the fold. -/
theorem fold_inv {σ : Type} {n : ℕ} (g : Fin n → σ → σ) (init : σ) (P : ℕ → σ → Prop) (h0 : P 0 init)
    (hs : ∀ (k : Fin n) acc, P k.val acc → P (k.val + 1) (g k acc)) : P n (Scf.fold g init) := by
  rw [Scf.fold_eq]
  have aux : ∀ (l : List (Fin n)) (k : ℕ) (acc : σ), l.map Fin.val = List.range' k l.length → P k acc →
      P (k + l.length) (l.foldl (fun acc k => g k acc) acc) := fun l => by
    induction l with
    | nil => intro k acc _ h; exact h
    | cons a l ih =>
      intro k acc hl h
      rw [List.map_cons, List.length_cons, List.range'_succ, List.cons.injEq] at hl
      rw [List.foldl_cons, List.length_cons, show k + (l.length + 1) = (k + 1) + l.length by omega]
      refine ih (k + 1) _ hl.2 ?_
      have := hs a acc (by rw [hl.1]; exact h)
      rwa [hl.1] at this
  have := aux (List.finRange n) 0 init (by rw [List.map_coe_finRange_eq_range, List.length_finRange, List.range_eq_range']) h0
  rwa [List.length_finRange, Nat.zero_add] at this

/-- An index as the number it is. -/
theorem sitofp_ix {n : ℕ} (hn : n ≤ 2 ^ 31) (i : Fin n) : (FloatOps.sitofp (F := Ideal) .f32 (BitVec.ofNat 32 i.val)) = ix i := by
  show (((BitVec.ofNat 32 i.val).toInt : ℝ) : EReal) = _
  unfold ix
  have : (BitVec.ofNat 32 i.val).toInt = (i.val : ℤ) := by
    have := i.isLt
    rw [BitVec.toInt_eq_toNat_of_lt (by rw [BitVec.toNat_ofNat]; omega), BitVec.toNat_ofNat]
    omega
  rw [this]
  norm_num

theorem ix_le_8192 (f : Fin 8192) : ix f ≤ Ideal.ofBits .f32 1174405120#32 := by
  rw [c_8192]
  unfold ix
  rw [EReal.coe_le_coe_iff]
  exact_mod_cast f.isLt.le

/-- A row's points, from its three coordinates' arrays. -/
def pts (v0 v2 v4 : FVec Ideal S8x8192 .f32) (r : Fin 8) (i : Fin 8192) : Fin 3 → EReal := ![v0 (ix2 r i), v2 (ix2 r i), v4 (ix2 r i)]

variable (v0 v2 v4 : FVec Ideal S8x8192 .f32)

/-- What a trip finds: the distances, the point to sample, and the points sampled before. -/
def Inv (k : ℕ) (a : FVec Ideal S8x8192 .f32 × FVec Ideal S8x1 .f32 × FVec Ideal S8x512 .f32) : Prop :=
  (∀ (r : Fin 8) (i : Fin 8192), a.1 (ix2 r i) = (sample (pts v0 v2 v4 r) k).1 i)
  ∧ (∀ r : Fin 8, a.2.1 (ix2 r (0 : Fin 1)) = ix (sample (pts v0 v2 v4 r) k).2)
  ∧ ∀ (r : Fin 8) (q : Fin 512), a.2.2 (ix2 r q) = if q.val < k then ix (sample (pts v0 v2 v4 r) q.val).2 else 0

theorem pay7 (a5 : FVec Ideal S8x8192 .f32) (a6 : FVec Ideal S8x1 .f32) (r : Fin 8) (f : Fin 8192) (hf : a6 (ix2 r (0 : Fin 1)) = ix f) (i : Fin 8192) :
    k1_pay7 (F := Ideal) v0 v2 v4 a5 a6 (ix2 r i) = min (a5 (ix2 r i)) (gap (pts v0 v2 v4 r) f i) := by
  pointwise [k1_pay7, k1_pay1, k1_pay2]
  simp only [sitofp_ix (show 8192 ≤ 2 ^ 31 by norm_num), hf, ix_inj, Finset.sum_ite_eq', Finset.mem_univ, if_true]
  rfl

theorem pay8 (a5 : FVec Ideal S8x8192 .f32) (a6 : FVec Ideal S8x1 .f32) (r : Fin 8) (f : Fin 8192)
    (hf : Order.rank (fun i => k1_pay7 (F := Ideal) v0 v2 v4 a5 a6 (ix2 r i)) f = 0) :
    k1_pay8 (F := Ideal) v0 v2 v4 a5 a6 (ix2 r (0 : Fin 1)) = ix f := by
  unfold k1_pay8
  generalize k1_pay7 (F := Ideal) v0 v2 v4 a5 a6 = d at hf ⊢
  pointwise [k1_pay2]
  simp only [sitofp_ix (show 8192 ≤ 2 ^ 31 by norm_num), c_bot, c_top]
  convert fold_first_max hf _ (ix_le_8192 f)

theorem pay6 (t : Fin k1_t1_loop.trips) (a6 : FVec Ideal S8x1 .f32) (a7 : FVec Ideal S8x512 .f32) (r : Fin 8) (q : Fin 512) :
    k1_pay6 (F := Ideal) t a6 a7 (ix2 r q) = if q.val = t.val then a6 (ix2 r (0 : Fin 1)) else a7 (ix2 r q) := by
  pointwise [k1_pay6]
  have ht : t.val < 512 := t.isLt
  have hiv : Scf.iv 0#32 1#32 t.val = BitVec.ofNat 32 t.val := by unfold Scf.iv; simp
  have hs : FloatOps.sitofp (F := Ideal) .f32 (BitVec.setWidth 32 (IntOp.cmpi CmpIPredicate.eq (BitVec.ofNat 32 q.val) (Scf.iv 0#32 1#32 t.val)))
      = if q.val = t.val then 1 else 0 := by
    have hq := q.isLt
    have he : IntOp.cmpi CmpIPredicate.eq (BitVec.ofNat 32 q.val) (BitVec.ofNat 32 t.val) = if q.val = t.val then 1#1 else 0#1 := by
      by_cases h : q.val = t.val
      · rw [if_pos h, h]; simp [IntOp.cmpi]
      · have hne : BitVec.ofNat 32 q.val ≠ BitVec.ofNat 32 t.val := fun h' => h (by
          have := congrArg BitVec.toNat h'
          rw [BitVec.toNat_ofNat, BitVec.toNat_ofNat] at this
          omega)
        rw [if_neg h]; show BitVec.ofBool (_ == _) = _; rw [beq_eq_false_iff_ne.mpr hne]; rfl
    rw [hiv, he]
    split
    · show (((BitVec.setWidth 32 1#1).toInt : ℝ) : EReal) = 1
      norm_num
    · show (((BitVec.setWidth 32 0#1).toInt : ℝ) : EReal) = 0
      norm_num
  rw [hs]
  split
  · have : (1 : EReal) - 1 = 0 := EReal.sub_self (by decide) (by decide)
    rw [this, mul_zero, zero_add, mul_one]
  · rw [sub_zero, mul_one, mul_zero, add_zero]

theorem inv_zero : Inv v0 v2 v4 0 (k1_pay3 v0, k1_pay4 v0, k1_pay5 v0) := by
  refine ⟨fun r i => ?_, fun r => ?_, fun r q => ?_⟩ <;> dsimp only
  · rw [sample_zero]
    pointwise [k1_pay3, k1_pay1]
    rw [mul_zero, zero_add]
  · rw [sample_zero]
    pointwise [k1_pay4, k1_pay1]
    simp only [c_top, mul_zero]
    refine (fold_min_eq (fun _ : Fin 8192 => (0 : EReal)) 0 fun _ => le_refl _).trans ?_
    unfold ix
    norm_num
  · rw [if_neg (Nat.not_lt_zero _)]
    pointwise [k1_pay5, k1_pay1]
    exact mul_zero _

theorem inv_step (t : Fin k1_t1_loop.trips) (a : FVec Ideal S8x8192 .f32 × FVec Ideal S8x1 .f32 × FVec Ideal S8x512 .f32) (h : Inv v0 v2 v4 t.val a) :
    Inv v0 v2 v4 (t.val + 1) (k1_pay7 v0 v2 v4 a.1 a.2.1, k1_pay8 v0 v2 v4 a.1 a.2.1, k1_pay6 t a.2.1 a.2.2) := by
  obtain ⟨h1, h2, h3⟩ := h
  have hd : ∀ (r : Fin 8) (i : Fin 8192), k1_pay7 (F := Ideal) v0 v2 v4 a.1 a.2.1 (ix2 r i) = (sample (pts v0 v2 v4 r) (t.val + 1)).1 i := fun r i => by
    rw [pay7 v0 v2 v4 a.1 a.2.1 r _ (h2 r) i, h1 r i, sample_dist]
  refine ⟨hd, fun r => ?_, fun r q => ?_⟩ <;> dsimp only
  · refine pay8 v0 v2 v4 a.1 a.2.1 r _ ?_
    rw [show (fun i => k1_pay7 (F := Ideal) v0 v2 v4 a.1 a.2.1 (ix2 r i)) = (sample (pts v0 v2 v4 r) (t.val + 1)).1 from funext (hd r)]
    exact rank_next _ _
  · rw [pay6, h2 r, h3 r q]
    by_cases hq : q.val = t.val
    · rw [if_pos hq, if_pos (by omega), hq]
    · rw [if_neg hq]
      by_cases hlt : q.val < t.val
      · rw [if_pos hlt, if_pos (by omega)]
      · rw [if_neg hlt, if_neg (by omega)]

variable (V : (c : Dev nD) → (b : Ref sig .tc) → Buf (Elt Ideal) ((c : Thread nD τ).loc b))

/-- What the call's one point leaves: the points sampled. -/
theorem outs (c : Dev nD) (t : Fin cfg1.N) (r : Fin 8) (q : Fin 512) :
    Fps.outsAt1 V c t (ix2 r q) = ix (sample (pts (Fps.iblk V c 0 t) (Fps.iblk V c 1 t) (Fps.iblk V c 2 t) r) q.val).2 := by
  have hfold : ∀ x0 x1 x2 : FVec Ideal S8x8192 .f32, Inv x0 x1 x2 512
      (Scf.fold (n := k1_t1_loop.trips) (fun t a => (k1_pay7 x0 x1 x2 a.1 a.2.1, k1_pay8 x0 x1 x2 a.1 a.2.1, k1_pay6 t a.2.1 a.2.2)) (k1_pay3 x0, k1_pay4 x0, k1_pay5 x0)) :=
    fun x0 x1 x2 => fold_inv _ _ (Inv x0 x1 x2) (inv_zero x0 x1 x2) (inv_step x0 x1 x2)
  have h := ((hfold (Fps.iblk V c 0 t) (Fps.iblk V c 1 t) (Fps.iblk V c 2 t)).2.2 r q).trans (if_pos q.isLt)
  generalize ix (sample (pts (Fps.iblk V c 0 t) (Fps.iblk V c 1 t) (Fps.iblk V c 2 t) r) q.val).2 = e at h ⊢
  rw [← h]
  clear h
  unfold Fps.outsAt1
  frame_out
  simp only [read_unread_whole]

theorem idx1 : ∀ t : Fin grid1.N, win1_0.index t = ![0, 0] ∧ win1_1.index t = ![0, 0] ∧ win1_2.index t = ![0, 0] ∧ win1_3.index t = ![0, 0] := by decide +kernel

theorem blk0 (c : Dev nD) (t : Fin cfg1.N) (r : Fin 8) (i : Fin 8192) : Fps.iblk V c 0 t (ix2 r i) = V c main_v8 (ix2 r i) := by
  blk_ext [Fps.iblk, idx1 t]
theorem blk1 (c : Dev nD) (t : Fin cfg1.N) (r : Fin 8) (i : Fin 8192) : Fps.iblk V c 1 t (ix2 r i) = V c main_v13 (ix2 r i) := by
  blk_ext [Fps.iblk, idx1 t]
theorem blk2 (c : Dev nD) (t : Fin cfg1.N) (r : Fin 8) (i : Fin 8192) : Fps.iblk V c 2 t (ix2 r i) = V c main_v18 (ix2 r i) := by
  blk_ext [Fps.iblk, idx1 t]

/-- The points sampled, as the call's result. -/
def sampled (c : Dev nD) : FVec Ideal S8x512 .f32 := fun j => ix (sample (pts (V c main_v8) (V c main_v13) (V c main_v18) (j 0)) (j 1).val).2

theorem arr (c : Dev nD) : (Fps.dat V c).arrAt 3 cfg1.N = sampled V c := by
  refine (Fps.dat V c).arrAt_eq_of_covers 3 _ (by decide +kernel) fun t hf y => ?_
  blk_simp
  rw [Fps.after1_3]
  idx_vars y
  rw [outs]
  have he : ((View.whole main_v19).slice (win1_3.rect t)).emb (ix2 y0 y1) = ix2 y0 y1 := by blk_ext [idx1 t]
  rw [he]
  unfold sampled
  have hp : pts (Fps.iblk V c 0 t) (Fps.iblk V c 1 t) (Fps.iblk V c 2 t) y0 = pts (V c main_v8) (V c main_v13) (V c main_v18) y0 := by
    funext i
    unfold pts
    rw [blk0, blk1, blk2]
  rw [hp]
  rfl

end Cert.KernelIdeal.FpsValue

end
-- ==== Proof.GroupPay.lean ====
/- What one point of the neighbourhood call computes: over its block of sampled points, the sum of their terms. -/
module

public import proofs.«01_k».proof.Proof.FpsValue

@[expose] public section

set_option maxRecDepth 16384

noncomputable section

namespace Cert.KernelIdeal.GroupPay

open Cert.KernelIdeal Cert.KernelIdeal.Gen
open Idealize.ShloMosaic Idealize.ShloMosaic.TcCoe Idealize.ShloMosaic.Tactic
open Cert.Consts Cert.Order Cert.Spec Cert.Terms Cert.KernelIdeal.FpsValue

variable (x0 : FVec Ideal S1x8192x256 .f32) (x1 x2 x3 x4 : FVec Ideal S1x1x8192 .f32) (x5 : FVec Ideal S1x128x1 .f32)

/-- The block's points, from its three coordinates' blocks. -/
def pts3 (i : Fin 8192) : Fin 3 → EReal := ![x1 (ix3 (0 : Fin 1) (0 : Fin 1) i), x2 (ix3 (0 : Fin 1) (0 : Fin 1) i), x3 (ix3 (0 : Fin 1) (0 : Fin 1) i)]

variable {x5} {c : Fin 128 → Fin 8192} (hc : ∀ q, x5 (ix3 (0 : Fin 1) q (0 : Fin 1)) = ix (c q))

include hc

theorem pay10 (q : Fin 128) (i : Fin 8192) : k2_pay10 (F := Ideal) x5 (ix2 q i) = BitVec.ofBool (decide (c q = i)) := by
  pointwise [k2_pay10, k2_pay9]
  simp only [sitofp_ix (show 8192 ≤ 2 ^ 31 by norm_num), hc, ix_inj]

theorem pay11 (q : Fin 128) : k2_pay11 (F := Ideal) x1 x5 (ix2 q (0 : Fin 1)) = x1 (ix3 (0 : Fin 1) (0 : Fin 1) (c q)) := by
  pointwise [k2_pay11, k2_pay10, k2_pay5, k2_pay9]
  simp only [sitofp_ix (show 8192 ≤ 2 ^ 31 by norm_num), hc, ix_inj, Finset.sum_ite_eq, Finset.mem_univ, if_true]
theorem pay12 (q : Fin 128) : k2_pay12 (F := Ideal) x2 x5 (ix2 q (0 : Fin 1)) = x2 (ix3 (0 : Fin 1) (0 : Fin 1) (c q)) := by
  pointwise [k2_pay12, k2_pay10, k2_pay6, k2_pay9]
  simp only [sitofp_ix (show 8192 ≤ 2 ^ 31 by norm_num), hc, ix_inj, Finset.sum_ite_eq, Finset.mem_univ, if_true]
theorem pay13 (q : Fin 128) : k2_pay13 (F := Ideal) x3 x5 (ix2 q (0 : Fin 1)) = x3 (ix3 (0 : Fin 1) (0 : Fin 1) (c q)) := by
  pointwise [k2_pay13, k2_pay10, k2_pay7, k2_pay9]
  simp only [sitofp_ix (show 8192 ≤ 2 ^ 31 by norm_num), hc, ix_inj, Finset.sum_ite_eq, Finset.mem_univ, if_true]

/-- The squared distances from the block's sampled points. -/
theorem pay14 (q : Fin 128) (i : Fin 8192) :
    k2_pay14 (F := Ideal) (k2_pay5 x1) (k2_pay6 x2) (k2_pay7 x3) (k2_pay11 x1 x5) (k2_pay12 x2 x5) (k2_pay13 x3 x5) (ix2 q i)
      = dist (pts3 x1 x2 x3) (c q) i := by
  have h1 := pay11 x1 hc q
  have h2 := pay12 x2 hc q
  have h3 := pay13 x3 hc q
  generalize k2_pay11 (F := Ideal) x1 x5 = a1 at h1 ⊢
  generalize k2_pay12 (F := Ideal) x2 x5 = a2 at h2 ⊢
  generalize k2_pay13 (F := Ideal) x3 x5 = a3 at h3 ⊢
  pointwise [k2_pay14, k2_pay5, k2_pay6, k2_pay7]
  simp only [h1, h2, h3]
  rfl

omit hc

/-- A trip overwrites the least remaining distance. -/
theorem pay15 {d : Fin 8192 → EReal} (hd : ∀ i, d i < Ideal.ofBits .f32 1900671690#32) (k : ℕ) (hk : k < 8192) (v : FVec Ideal S128x8192 .f32) (q : Fin 128)
    (hv : ∀ i, v (ix2 q i) = masked d (Ideal.ofBits .f32 1900671690#32) k i) (i : Fin 8192) :
    k2_pay15 (F := Ideal) k2_pay9 v (ix2 q i) = masked d (Ideal.ofBits .f32 1900671690#32) (k + 1) i := by
  obtain ⟨f, hf⟩ := exists_rank (fun i => -d i) k hk
  have hr := rank_masked hd hf
  rw [← masked_succ d _ k hf i]
  pointwise [k2_pay15, k2_pay9]
  simp only [sitofp_ix (show 8192 ≤ 2 ^ 31 by norm_num), c_top, hv]
  rw [fold_first_min hr _ (ix_le_8192 f)]

theorem fold_pay15 {D : Fin 128 → Fin 8192 → EReal} (hd : ∀ q i, D q i < Ideal.ofBits .f32 1900671690#32) (v : FVec Ideal S128x8192 .f32)
    (hv : ∀ q i, v (ix2 q i) = D q i) (q : Fin 128) (i : Fin 8192) :
    Scf.fold (n := k2_t1_loop.trips) (fun _ d => k2_pay15 (F := Ideal) k2_pay9 d) v (ix2 q i) = masked (D q) (Ideal.ofBits .f32 1900671690#32) 32 i := by
  have := fold_inv (n := 32) (fun _ d => k2_pay15 (F := Ideal) k2_pay9 d) v
    (fun k w => k ≤ 32 ∧ ∀ q i, w (ix2 q i) = masked (D q) (Ideal.ofBits .f32 1900671690#32) k i)
    ⟨by norm_num, fun q i => by rw [masked_zero, hv]⟩
    (fun k w h => ⟨k.isLt, fun q i => pay15 (hd q) k.val (lt_trans k.isLt (by norm_num)) w q (h.2 q) i⟩)
  exact this.2 q i

end Cert.KernelIdeal.GroupPay

end
-- ==== Proof.GroupBlock.lean ====
/- The sum of the terms of a block of sampled points, as the neighbourhood call computes it. -/
module

public import proofs.«01_k».proof.Proof.GroupPay

@[expose] public section

set_option maxRecDepth 16384

noncomputable section

namespace Cert.KernelIdeal.GroupBlock

open Cert.KernelIdeal Cert.KernelIdeal.Gen
open Idealize.ShloMosaic Idealize.ShloMosaic.TcCoe Idealize.ShloMosaic.Tactic
open Cert.Consts Cert.Order Cert.Spec Cert.Terms Cert.KernelIdeal.FpsValue Cert.KernelIdeal.GroupPay

variable (x0 : FVec Ideal S1x8192x256 .f32) (x1 x2 x3 x4 : FVec Ideal S1x1x8192 .f32) (x5 : FVec Ideal S1x128x1 .f32)

variable {x5} {c : Fin 128 → Fin 8192} (hc : ∀ q, x5 (ix3 (0 : Fin 1) q (0 : Fin 1)) = ix (c q))

include hc

/-- The multiplicities. -/
theorem pay16 (p : Fin 8192 → Fin 3 → EReal) (hd : ∀ q i, dist p (c q) i < Ideal.ofBits .f32 1900671690#32)
    (v : FVec Ideal S128x8192 .f32) (hv : ∀ q i, v (ix2 q i) = masked (dist p (c q)) (Ideal.ofBits .f32 1900671690#32) 32 i) (q : Fin 128) (i : Fin 8192) :
    k2_pay16 (F := Ideal) (k2_pay10 (F := Ideal) x5) v (ix2 q i) = mult p (c q) i := by
  have h10 := pay10 hc q i
  generalize k2_pay10 (F := Ideal) x5 = b at h10 ⊢
  pointwise [k2_pay16]
  rw [hv, h10]
  unfold mult masked
  have hm : ((if rank (fun i => -Spec.dist p (c q) i) i < 32 then Ideal.ofBits .f32 1900671690#32 else Spec.dist p (c q) i) = Ideal.ofBits .f32 1900671690#32)
      ↔ rank (nearness p (c q)) i < 32 := by
    show _ ↔ rank (fun i => -Spec.dist p (c q) i) i < 32
    by_cases h : rank (fun i => -Spec.dist p (c q) i) i < 32
    · simp only [h, if_true]
    · simp only [h, if_false, iff_false]
      exact (hd q i).ne
  have hs : Scalar.select (BitVec.ofBool (decide (c q = i))) (1 : EReal) 0 = if i = c q then 1 else 0 := by
    by_cases h : c q = i
    · rw [if_pos h.symm, decide_eq_true h]; rfl
    · rw [if_neg fun h' => h h'.symm, decide_eq_false h]; rfl
  rw [hs]
  congr 1
  by_cases h : rank (nearness p (c q)) i < 32
  · rw [if_pos (hm.mpr h), if_pos h]
  · rw [if_neg (fun h' => h (hm.mp h')), if_neg h]

omit hc

theorem pay2 (v1 : FVec Ideal S8192x256 .f32) (v71 : FVec Ideal S128x8192 .f32) (v76 v79 v80 : FVec Ideal S1x8192 .f32) :
    k2_pay2 (F := Ideal) v1 v71 v76 v79 v80 (ix3 (0 : Fin 1) (0 : Fin 1) (0 : Fin 1)) = k2_pay1 (F := Ideal) v1 v71 v76 v79 v80 := by
  unfold k2_pay2
  generalize k2_pay1 (F := Ideal) v1 v71 v76 v79 v80 = e
  pointwise

theorem pay3 (v1 : FVec Ideal S8192x256 .f32) (v71 : FVec Ideal S128x8192 .f32) (v76 v79 v80 : FVec Ideal S1x8192 .f32) (w : FVec Ideal S1x1x1 .f32) :
    k2_pay3 (F := Ideal) v1 v71 v76 v79 v80 w (ix3 (0 : Fin 1) (0 : Fin 1) (0 : Fin 1))
      = w (ix3 (0 : Fin 1) (0 : Fin 1) (0 : Fin 1)) + k2_pay1 (F := Ideal) v1 v71 v76 v79 v80 := by
  unfold k2_pay3
  generalize k2_pay1 (F := Ideal) v1 v71 v76 v79 v80 = e
  pointwise

theorem pay1 (X : FVec Ideal S8192x256 .f32) (A : FVec Ideal S128x8192 .f32) (Q : FVec Ideal S1x8192 .f32) :
    k2_pay1 (F := Ideal) X A (k2_pay17 Q) (k2_pay18 Q) k2_pay19
      = ∑ q : Fin 128, kterm (fun i k => X (ix2 i k)) (fun i => A (ix2 q i)) (fun i => Q (ix2 (0 : Fin 1) i)) := by
  have h17 : ∀ i : Fin 8192, k2_pay17 (F := Ideal) Q (ix2 (0 : Fin 1) i) = if 0 < Q (ix2 (0 : Fin 1) i) then Ideal.rsqrt (Q (ix2 (0 : Fin 1) i)) else 0 := fun i => by
    pointwise [k2_pay17]
  have h18 : ∀ i : Fin 8192, k2_pay18 (F := Ideal) Q (ix2 (0 : Fin 1) i) = Ideal.log1p (Ideal.ofBits .f32 1134559232#32 * Q (ix2 (0 : Fin 1) i)) := fun i => by
    pointwise [k2_pay18]
  have h19 : ∀ i : Fin 8192, k2_pay19 (F := Ideal) (ix2 (0 : Fin 1) i) = Ideal.ofBits .f32 3204448256#32 := fun i => by
    pointwise [k2_pay19]
  generalize k2_pay17 (F := Ideal) Q = r at h17 ⊢
  generalize k2_pay18 (F := Ideal) Q = l at h18 ⊢
  generalize k2_pay19 (F := Ideal) = h at h19 ⊢
  pointwise [k2_pay1]
  simp only [h17, h18, h19]
  refine Finset.sum_congr rfl fun q _ => ?_
  rw [Fin.sum_univ_one]
  unfold kterm
  simp only [mul_assoc]

include hc

/-- The block's terms, from its staged arrays. -/
theorem block (x0 : FVec Ideal S1x8192x256 .f32) (x1 x2 x3 x4 : FVec Ideal S1x1x8192 .f32)
    (hd : ∀ q i, dist (pts3 x1 x2 x3) (c q) i < Ideal.ofBits .f32 1900671690#32) :
    k2_pay1 (F := Ideal) (k2_pay4 x0)
        (k2_pay16 (F := Ideal) (k2_pay10 (F := Ideal) x5) (Scf.fold (n := k2_t1_loop.trips) (fun _ d => k2_pay15 (F := Ideal) k2_pay9 d)
          (k2_pay14 (F := Ideal) (k2_pay5 x1) (k2_pay6 x2) (k2_pay7 x3) (k2_pay11 x1 x5) (k2_pay12 x2 x5) (k2_pay13 x3 x5))))
        (k2_pay17 (k2_pay8 x4)) (k2_pay18 (k2_pay8 x4)) k2_pay19
      = ∑ q : Fin 128, kterm (fun i k => x0 (ix3 (0 : Fin 1) i k)) (mult (pts3 x1 x2 x3) (c q)) (fun i => x4 (ix3 (0 : Fin 1) (0 : Fin 1) i)) := by
  rw [pay1]
  have h4 : ∀ (i : Fin 8192) (k : Fin 256), k2_pay4 (F := Ideal) x0 (ix2 i k) = x0 (ix3 (0 : Fin 1) i k) := fun i k => by pointwise [k2_pay4]
  have h8 : ∀ i : Fin 8192, k2_pay8 (F := Ideal) x4 (ix2 (0 : Fin 1) i) = x4 (ix3 (0 : Fin 1) (0 : Fin 1) i) := fun i => by pointwise [k2_pay8]
  simp only [h4, h8]
  refine Finset.sum_congr rfl fun q _ => ?_
  congr 1
  funext i
  exact pay16 hc (pts3 x1 x2 x3) hd _ (fold_pay15 hd _ (pay14 x1 x2 x3 hc)) q i

end Cert.KernelIdeal.GroupBlock

end
-- ==== Proof.GroupValue.lean ====
/- What the neighbourhood call on the first cloud leaves: per batch, the sum over the sampled points of their terms. -/
module

public import proofs.«01_k».proof.Proof.Group
public import proofs.«01_k».proof.Proof.GroupBlock

@[expose] public section

set_option maxRecDepth 16384

noncomputable section

namespace Cert.KernelIdeal.GroupValue

open Cert.KernelIdeal Cert.KernelIdeal.Gen
open Idealize.ShloMosaic Idealize.ShloMosaic.TcCoe Idealize.ShloMosaic.Tactic
open Cert.Consts Cert.Order Cert.Spec Cert.Terms Cert.KernelIdeal.FpsValue Cert.KernelIdeal.GroupPay Cert.KernelIdeal.GroupBlock

variable (V : (c : Dev nD) → (b : Ref sig .tc) → Buf (Elt Ideal) ((c : Thread nD τ).loc b)) (c : Dev nD)

theorem idx2 : ∀ t : Fin grid2.N, win2_0.index t = ![t.val / 4, 0, 0] ∧ win2_1.index t = ![t.val / 4, 0, 0] ∧ win2_2.index t = ![t.val / 4, 0, 0]
    ∧ win2_3.index t = ![t.val / 4, 0, 0] ∧ win2_4.index t = ![t.val / 4, 0, 0] ∧ win2_5.index t = ![t.val, 0, 0]
    ∧ win2_6.index t = ![t.val / 4, 0, 0] := by decide +kernel

theorem flush6 : ∀ t : Fin cfg2.N, (cfg2.win 6).flush t = true → t.val % 4 = 3 := by decide +kernel

/-- The batch of a point. -/
def ptBatch (t : Fin 16) : Fin 4 := ⟨t.val / 4, by omega⟩

/-- The batch of a grid point. -/
def bat (t : Fin cfg2.N) : Fin 4 := ⟨t.val / 4, by have : t.val < 16 := Nat.lt_of_lt_of_eq t.isLt N_2; omega⟩

theorem blk0 (t : Fin cfg2.N) (i : Fin 8192) (k : Fin 256) : Group.iblk V c 0 t (ix3 (0 : Fin 1) i k) = V c main_arg0 (ix3 (bat t) i k) := by
  unfold bat; blk_ext [Group.iblk, idx2 t]
theorem blk1 (t : Fin cfg2.N) (i : Fin 8192) : Group.iblk V c 1 t (ix3 (0 : Fin 1) (0 : Fin 1) i) = V c main_v25 (ix3 (bat t) (0 : Fin 1) i) := by
  unfold bat; blk_ext [Group.iblk, idx2 t]
theorem blk2 (t : Fin cfg2.N) (i : Fin 8192) : Group.iblk V c 2 t (ix3 (0 : Fin 1) (0 : Fin 1) i) = V c main_v27 (ix3 (bat t) (0 : Fin 1) i) := by
  unfold bat; blk_ext [Group.iblk, idx2 t]
theorem blk3 (t : Fin cfg2.N) (i : Fin 8192) : Group.iblk V c 3 t (ix3 (0 : Fin 1) (0 : Fin 1) i) = V c main_v29 (ix3 (bat t) (0 : Fin 1) i) := by
  unfold bat; blk_ext [Group.iblk, idx2 t]
theorem blk4 (t : Fin cfg2.N) (i : Fin 8192) : Group.iblk V c 4 t (ix3 (0 : Fin 1) (0 : Fin 1) i) = V c main_v30 (ix3 (bat t) (0 : Fin 1) i) := by
  unfold bat; blk_ext [Group.iblk, idx2 t]
theorem blk5 (t : Fin cfg2.N) (q : Fin 128) : Group.iblk V c 5 t (ix3 (0 : Fin 1) q (0 : Fin 1))
    = V c main_v21 (ix3 (⟨t.val, Nat.lt_of_lt_of_eq t.isLt N_2⟩ : Fin 16) q (0 : Fin 1)) := by
  blk_ext [Group.iblk, idx2 t]

/-- A batch's points, as the call finds them. -/
def p (b : Fin 4) (i : Fin 8192) : Fin 3 → EReal :=
  ![V c main_v25 (ix3 b (0 : Fin 1) i), V c main_v27 (ix3 b (0 : Fin 1) i), V c main_v29 (ix3 b (0 : Fin 1) i)]

/-- The term at point `f` of batch `b`. -/
def term (b : Fin 4) (f : Fin 8192) : EReal :=
  kterm (fun i k => V c main_arg0 (ix3 b i k)) (mult (p V c b) f) (fun i => V c main_v30 (ix3 b (0 : Fin 1) i))

variable {f : Fin 4 → ℕ → Fin 8192}
  (hf : ∀ (t : Fin 16) (q : Fin 128), V c main_v21 (ix3 t q (0 : Fin 1)) = ix (f (ptBatch t) (t.val % 4 * 128 + q.val)))
  (hd : ∀ b s i, dist (p V c b) (f b s) i < Ideal.ofBits .f32 1900671690#32)

include hf hd

/-- A point's sum. -/
theorem point (t : Fin cfg2.N) :
    k2_pay1 (F := Ideal) (k2_pay4 (Group.iblk V c 0 t))
        (k2_pay16 (F := Ideal) (k2_pay10 (F := Ideal) (Group.iblk V c 5 t)) (Scf.fold (n := k2_t1_loop.trips) (fun _ d => k2_pay15 (F := Ideal) k2_pay9 d)
          (k2_pay14 (F := Ideal) (k2_pay5 (Group.iblk V c 1 t)) (k2_pay6 (Group.iblk V c 2 t)) (k2_pay7 (Group.iblk V c 3 t))
            (k2_pay11 (Group.iblk V c 1 t) (Group.iblk V c 5 t)) (k2_pay12 (Group.iblk V c 2 t) (Group.iblk V c 5 t)) (k2_pay13 (Group.iblk V c 3 t) (Group.iblk V c 5 t)))))
        (k2_pay17 (k2_pay8 (Group.iblk V c 4 t))) (k2_pay18 (k2_pay8 (Group.iblk V c 4 t))) k2_pay19
      = ∑ q : Fin 128, term V c (bat t) (f (bat t) (t.val % 4 * 128 + q.val)) := by
  have hp : pts3 (Group.iblk V c 1 t) (Group.iblk V c 2 t) (Group.iblk V c 3 t) = p V c (bat t) := by
    funext i
    unfold pts3 p
    rw [blk1, blk2, blk3]
  rw [block (c := fun q => f (bat t) (t.val % 4 * 128 + q.val)) (fun q => (blk5 V c t q).trans (hf _ q)) _ _ _ _ _ (by rw [hp]; exact fun q i => hd _ _ i), hp]
  unfold term
  simp only [blk0, blk4]

theorem outs (t : Fin cfg2.N) (j : S1x1x1.Idx) :
    Group.outsAt2 V c t.val t.isLt j = ∑ k ∈ Finset.range (t.val % 4 + 1), ∑ q : Fin 128, term V c (bat t) (f (bat t) (k * 128 + q.val)) := by
  have hb : ∀ t : Fin cfg2.N, bat t = Fin.ofNat 4 (t.val / 4) := fun t => Fin.ext (by
    have : t.val < 16 := Nat.lt_of_lt_of_eq t.isLt N_2
    show t.val / 4 = t.val / 4 % 4
    omega)
  have hpt := point V c hf hd
  have := Pipeline.eq_sum_of_reset_step_apply_divmod (fun n h => Group.outsAt2 V c n h) 4 (fun _ => (0 : EReal))
    (fun b k _ => ∑ q : Fin 128, term V c (Fin.ofNat 4 b) (f (Fin.ofNat 4 b) (k * 128 + q.val)))
    (fun t h j => by
      have hj : j = ix3 (0 : Fin 1) (0 : Fin 1) (0 : Fin 1) := by idx_vars j; blk_ext
      have hp := hpt t
      rw [zero_add, ← hb, ← hp, Group.outsAt0_A V c t h (by omega)]
      clear hp hpt
      frame_out
      rw [hj]
      exact pay2 _ _ _ _ _)
    (fun t h j => by
      have hj : j = ix3 (0 : Fin 1) (0 : Fin 1) (0 : Fin 1) := by idx_vars j; blk_ext
      have hp := hpt t
      rw [← hb, ← hp, Group.outsAt0_B V c t h (by omega)]
      clear hp hpt
      frame_out
      rw [hj]
      exact pay3 _ _ _ _ _ _) t j
  rw [this, zero_add, hb]

theorem arr (b : Fin 4) : (Group.dat V c).arrAt 6 cfg2.N (ix3 b (0 : Fin 1) (0 : Fin 1))
    = ∑ k ∈ Finset.range 4, ∑ q : Fin 128, term V c b (f b (k * 128 + q.val)) := by
  have : (Group.dat V c).arrAt 6 cfg2.N = fun j => ∑ k ∈ Finset.range 4, ∑ q : Fin 128, term V c (j 0) (f (j 0) (k * 128 + q.val)) := by
    refine (Group.dat V c).arrAt_eq_of_covers 6 _ (by decide +kernel) fun t hfl y => ?_
    blk_simp
    rw [Group.after2_6]
    have he : (win2_6.blk t).view.emb y 0 = bat t := by
      idx_vars y
      apply Fin.ext
      unfold bat
      blk_simp [idx2 t]
    rw [he]
    refine (outs V c hf hd t y).trans ?_
    rw [flush6 t hfl]
  rw [this]
  rfl

/-- The sum of a batch's terms at the points of `f`. -/
def terms (f : Fin 4 → ℕ → Fin 8192) (b : Fin 4) : EReal := ∑ k ∈ Finset.range 4, ∑ q : Fin 128, term V c b (f b (k * 128 + q.val))

theorem arr_terms (b : Fin 4) : (Group.dat V c).arrAt 6 cfg2.N (ix3 b (0 : Fin 1) (0 : Fin 1)) = terms V c f b := arr V c hf hd b

end Cert.KernelIdeal.GroupValue

end
-- ==== Proof.Group2Value.lean ====
/- What the neighbourhood call on the second cloud leaves: per batch, the sum over the sampled points of their terms. -/
module

public import proofs.«01_k».proof.Proof.Group2
public import proofs.«01_k».proof.Proof.GroupBlock

@[expose] public section

set_option maxRecDepth 16384

noncomputable section

namespace Cert.KernelIdeal.Group2Value

open Cert.KernelIdeal Cert.KernelIdeal.Gen
open Idealize.ShloMosaic Idealize.ShloMosaic.TcCoe Idealize.ShloMosaic.Tactic
open Cert.Consts Cert.Order Cert.Spec Cert.Terms Cert.KernelIdeal.FpsValue Cert.KernelIdeal.GroupPay Cert.KernelIdeal.GroupBlock

variable (V : (c : Dev nD) → (b : Ref sig .tc) → Buf (Elt Ideal) ((c : Thread nD τ).loc b)) (c : Dev nD)

theorem idx2 : ∀ t : Fin grid3.N, win3_0.index t = ![t.val / 4, 0, 0] ∧ win3_1.index t = ![t.val / 4, 0, 0] ∧ win3_2.index t = ![t.val / 4, 0, 0]
    ∧ win3_3.index t = ![t.val / 4, 0, 0] ∧ win3_4.index t = ![t.val / 4, 0, 0] ∧ win3_5.index t = ![t.val, 0, 0]
    ∧ win3_6.index t = ![t.val / 4, 0, 0] := by decide +kernel

theorem flush6 : ∀ t : Fin cfg3.N, (cfg3.win 6).flush t = true → t.val % 4 = 3 := by decide +kernel

/-- The batch of a point. -/
def ptBatch (t : Fin 16) : Fin 4 := ⟨t.val / 4, by omega⟩

/-- The batch of a grid point. -/
def bat (t : Fin cfg3.N) : Fin 4 := ⟨t.val / 4, by have : t.val < 16 := Nat.lt_of_lt_of_eq t.isLt N_3; omega⟩

theorem blk0 (t : Fin cfg3.N) (i : Fin 8192) (k : Fin 256) : Group2.iblk V c 0 t (ix3 (0 : Fin 1) i k) = V c main_arg1 (ix3 (bat t) i k) := by
  unfold bat; blk_ext [Group2.iblk, idx2 t]
theorem blk1 (t : Fin cfg3.N) (i : Fin 8192) : Group2.iblk V c 1 t (ix3 (0 : Fin 1) (0 : Fin 1) i) = V c main_v34 (ix3 (bat t) (0 : Fin 1) i) := by
  unfold bat; blk_ext [Group2.iblk, idx2 t]
theorem blk2 (t : Fin cfg3.N) (i : Fin 8192) : Group2.iblk V c 2 t (ix3 (0 : Fin 1) (0 : Fin 1) i) = V c main_v36 (ix3 (bat t) (0 : Fin 1) i) := by
  unfold bat; blk_ext [Group2.iblk, idx2 t]
theorem blk3 (t : Fin cfg3.N) (i : Fin 8192) : Group2.iblk V c 3 t (ix3 (0 : Fin 1) (0 : Fin 1) i) = V c main_v38 (ix3 (bat t) (0 : Fin 1) i) := by
  unfold bat; blk_ext [Group2.iblk, idx2 t]
theorem blk4 (t : Fin cfg3.N) (i : Fin 8192) : Group2.iblk V c 4 t (ix3 (0 : Fin 1) (0 : Fin 1) i) = V c main_v39 (ix3 (bat t) (0 : Fin 1) i) := by
  unfold bat; blk_ext [Group2.iblk, idx2 t]
theorem blk5 (t : Fin cfg3.N) (q : Fin 128) : Group2.iblk V c 5 t (ix3 (0 : Fin 1) q (0 : Fin 1))
    = V c main_v23 (ix3 (⟨t.val, Nat.lt_of_lt_of_eq t.isLt N_3⟩ : Fin 16) q (0 : Fin 1)) := by
  blk_ext [Group2.iblk, idx2 t]

/-- A batch's points, as the call finds them. -/
def p (b : Fin 4) (i : Fin 8192) : Fin 3 → EReal :=
  ![V c main_v34 (ix3 b (0 : Fin 1) i), V c main_v36 (ix3 b (0 : Fin 1) i), V c main_v38 (ix3 b (0 : Fin 1) i)]

/-- The term at point `f` of batch `b`. -/
def term (b : Fin 4) (f : Fin 8192) : EReal :=
  kterm (fun i k => V c main_arg1 (ix3 b i k)) (mult (p V c b) f) (fun i => V c main_v39 (ix3 b (0 : Fin 1) i))

variable {f : Fin 4 → ℕ → Fin 8192}
  (hf : ∀ (t : Fin 16) (q : Fin 128), V c main_v23 (ix3 t q (0 : Fin 1)) = ix (f (ptBatch t) (t.val % 4 * 128 + q.val)))
  (hd : ∀ b s i, dist (p V c b) (f b s) i < Ideal.ofBits .f32 1900671690#32)

include hf hd

/-- A point's sum. -/
theorem point (t : Fin cfg3.N) :
    k2_pay1 (F := Ideal) (k2_pay4 (Group2.iblk V c 0 t))
        (k2_pay16 (F := Ideal) (k2_pay10 (F := Ideal) (Group2.iblk V c 5 t)) (Scf.fold (n := k2_t1_loop.trips) (fun _ d => k2_pay15 (F := Ideal) k2_pay9 d)
          (k2_pay14 (F := Ideal) (k2_pay5 (Group2.iblk V c 1 t)) (k2_pay6 (Group2.iblk V c 2 t)) (k2_pay7 (Group2.iblk V c 3 t))
            (k2_pay11 (Group2.iblk V c 1 t) (Group2.iblk V c 5 t)) (k2_pay12 (Group2.iblk V c 2 t) (Group2.iblk V c 5 t)) (k2_pay13 (Group2.iblk V c 3 t) (Group2.iblk V c 5 t)))))
        (k2_pay17 (k2_pay8 (Group2.iblk V c 4 t))) (k2_pay18 (k2_pay8 (Group2.iblk V c 4 t))) k2_pay19
      = ∑ q : Fin 128, term V c (bat t) (f (bat t) (t.val % 4 * 128 + q.val)) := by
  have hp : pts3 (Group2.iblk V c 1 t) (Group2.iblk V c 2 t) (Group2.iblk V c 3 t) = p V c (bat t) := by
    funext i
    unfold pts3 p
    rw [blk1, blk2, blk3]
  rw [block (c := fun q => f (bat t) (t.val % 4 * 128 + q.val)) (fun q => (blk5 V c t q).trans (hf _ q)) _ _ _ _ _ (by rw [hp]; exact fun q i => hd _ _ i), hp]
  unfold term
  simp only [blk0, blk4]

theorem outs (t : Fin cfg3.N) (j : S1x1x1.Idx) :
    Group2.outsAt3 V c t.val t.isLt j = ∑ k ∈ Finset.range (t.val % 4 + 1), ∑ q : Fin 128, term V c (bat t) (f (bat t) (k * 128 + q.val)) := by
  have hb : ∀ t : Fin cfg3.N, bat t = Fin.ofNat 4 (t.val / 4) := fun t => Fin.ext (by
    have : t.val < 16 := Nat.lt_of_lt_of_eq t.isLt N_3
    show t.val / 4 = t.val / 4 % 4
    omega)
  have hpt := point V c hf hd
  have := Pipeline.eq_sum_of_reset_step_apply_divmod (fun n h => Group2.outsAt3 V c n h) 4 (fun _ => (0 : EReal))
    (fun b k _ => ∑ q : Fin 128, term V c (Fin.ofNat 4 b) (f (Fin.ofNat 4 b) (k * 128 + q.val)))
    (fun t h j => by
      have hj : j = ix3 (0 : Fin 1) (0 : Fin 1) (0 : Fin 1) := by idx_vars j; blk_ext
      have hp := hpt t
      rw [zero_add, ← hb, ← hp, Group2.outsAt0_A V c t h (by omega)]
      clear hp hpt
      frame_out
      rw [hj]
      exact pay2 _ _ _ _ _)
    (fun t h j => by
      have hj : j = ix3 (0 : Fin 1) (0 : Fin 1) (0 : Fin 1) := by idx_vars j; blk_ext
      have hp := hpt t
      rw [← hb, ← hp, Group2.outsAt0_B V c t h (by omega)]
      clear hp hpt
      frame_out
      rw [hj]
      exact pay3 _ _ _ _ _ _) t j
  rw [this, zero_add, hb]

theorem arr (b : Fin 4) : (Group2.dat V c).arrAt 6 cfg3.N (ix3 b (0 : Fin 1) (0 : Fin 1))
    = ∑ k ∈ Finset.range 4, ∑ q : Fin 128, term V c b (f b (k * 128 + q.val)) := by
  have : (Group2.dat V c).arrAt 6 cfg3.N = fun j => ∑ k ∈ Finset.range 4, ∑ q : Fin 128, term V c (j 0) (f (j 0) (k * 128 + q.val)) := by
    refine (Group2.dat V c).arrAt_eq_of_covers 6 _ (by decide +kernel) fun t hfl y => ?_
    blk_simp
    rw [Group2.after3_6]
    have he : (win3_6.blk t).view.emb y 0 = bat t := by
      idx_vars y
      apply Fin.ext
      unfold bat
      blk_simp [idx2 t]
    rw [he]
    refine (outs V c hf hd t y).trans ?_
    rw [flush6 t hfl]
  rw [this]
  rfl

/-- The sum of a batch's terms at the points of `f`. -/
def terms (f : Fin 4 → ℕ → Fin 8192) (b : Fin 4) : EReal := ∑ k ∈ Finset.range 4, ∑ q : Fin 128, term V c b (f b (k * 128 + q.val))

theorem arr_terms (b : Fin 4) : (Group2.dat V c).arrAt 6 cfg3.N (ix3 b (0 : Fin 1) (0 : Fin 1)) = terms V c f b := arr V c hf hd b

end Cert.KernelIdeal.Group2Value

end
-- ==== Proof.KernelValue.lean ====
/- The kernel's result, from its arguments. -/
module

public import proofs.«01_k».proof.Proof.Run
public import proofs.«01_k».proof.Proof.HostValue
public import proofs.«01_k».proof.Proof.StatsValue
public import proofs.«01_k».proof.Proof.FpsValue
public import proofs.«01_k».proof.Proof.GroupValue
public import proofs.«01_k».proof.Proof.Group2Value

@[expose] public section

set_option maxRecDepth 16384

noncomputable section

namespace Cert.KernelIdeal.Value

open Cert.KernelIdeal Cert.KernelIdeal.Gen Cert.KernelIdeal.Run
open Idealize.ShloMosaic Idealize.ShloMosaic.TcCoe Idealize.ShloMosaic.Tactic
open Cert.Consts Cert.Order Cert.Spec Cert.Terms Cert.Clouds

variable (m : (ℓ : Loc nD τ sig) → Buf (Elt Ideal) ℓ) (ρ : Dev nD → PrngReg) (c : Dev nD)

/-- The arguments, by their indices. -/
def A0 (b : Fin 4) (i : Fin 8192) (k : Fin 256) : EReal := m ((c : Thread nD τ).loc main_arg0) (ix3 b i k)
def A1 (b : Fin 4) (i : Fin 8192) (k : Fin 256) : EReal := m ((c : Thread nD τ).loc main_arg1) (ix3 b i k)
def A2 (b : Fin 4) (i : Fin 8192) (d : Fin 3) : EReal := m ((c : Thread nD τ).loc main_arg2) (ix3 b i d)
def A3 (b : Fin 4) (i : Fin 8192) (d : Fin 3) : EReal := m ((c : Thread nD τ).loc main_arg3) (ix3 b i d)
/-- The points and the features of the eight clouds. -/
abbrev P : Fin 8 → Fin 8192 → Fin 3 → EReal := stack (A2 m c) (A3 m c)
abbrev X : Fin 8 → Fin 8192 → Fin 256 → EReal := stack (A0 m c) (A1 m c)

/-! ## The points' coordinates -/

theorem w2_v8 (r : Fin 8) (i : Fin 8192) : W2 m ρ c (Proc.devRef .tc main_v8) (ix2 r i) = P m c r i 0 := by
  rw [W2, HostValue.v8, W1_args m ρ c main_arg2 (by decide), W1_args m ρ c main_arg3 (by decide)]; rfl
theorem w2_v13 (r : Fin 8) (i : Fin 8192) : W2 m ρ c (Proc.devRef .tc main_v13) (ix2 r i) = P m c r i 1 := by
  rw [W2, HostValue.v13, W1_args m ρ c main_arg2 (by decide), W1_args m ρ c main_arg3 (by decide)]; rfl
theorem w2_v18 (r : Fin 8) (i : Fin 8192) : W2 m ρ c (Proc.devRef .tc main_v18) (ix2 r i) = P m c r i 2 := by
  rw [W2, HostValue.v18, W1_args m ρ c main_arg2 (by decide), W1_args m ρ c main_arg3 (by decide)]; rfl

theorem pts_eq (r : Fin 8) : FpsValue.pts (V2 m ρ c main_v8) (V2 m ρ c main_v13) (V2 m ρ c main_v18) r = P m c r := by
  funext i d
  unfold FpsValue.pts
  fin_cases d
  · exact w2_v8 m ρ c r i
  · exact w2_v13 m ρ c r i
  · exact w2_v18 m ρ c r i

/-! ## The sampled points -/

/-- The `s`-th sampled point of a cloud. -/
def far (r : Fin 8) (s : ℕ) : Fin 8192 := (sample (P m c r) s).2

theorem w3_v19 (r : Fin 8) (s : Fin 512) : W3 m ρ c (Proc.devRef .tc main_v19) (ix2 r s) = ix (far m c r s.val) := by
  have h := congrFun ((W3_arr m ρ c 3).trans (FpsValue.arr (V2 m ρ) c)) (ix2 r s)
  refine h.trans ?_
  unfold FpsValue.sampled far
  rw [← pts_eq m ρ c r]; rfl

/-! ## The first side's neighbourhoods -/

theorem w3_v8 (r : Fin 8) (i : Fin 8192) : W3 m ρ c (Proc.devRef .tc main_v8) (ix2 r i) = P m c r i 0 := by
  rw [W3_of m ρ c main_v8 (by decide +kernel), w2_v8]
theorem w3_v13 (r : Fin 8) (i : Fin 8192) : W3 m ρ c (Proc.devRef .tc main_v13) (ix2 r i) = P m c r i 1 := by
  rw [W3_of m ρ c main_v13 (by decide +kernel), w2_v13]
theorem w3_v18 (r : Fin 8) (i : Fin 8192) : W3 m ρ c (Proc.devRef .tc main_v18) (ix2 r i) = P m c r i 2 := by
  rw [W3_of m ρ c main_v18 (by decide +kernel), w2_v18]
theorem w3_v0_1 (b : Fin 4) (i : Fin 8192) : W3 m ρ c (Proc.devRef .tc main_v0_1) (ix3 b i (0 : Fin 1)) = ∑ k, A0 m c b i k * A0 m c b i k := by
  rw [W3_of m ρ c main_v0_1 (by decide +kernel), W2_of m ρ c main_v0_1 (by decide +kernel)]
  exact (congrFun (W1_arr m ρ c 3) _).trans (StatsValue.arr3 (V0 m ρ) c b i)

theorem p1 (b : Fin 4) : GroupValue.p (V4 m ρ) c b = P m c ⟨b.val, by omega⟩ := by
  funext i d
  unfold GroupValue.p
  fin_cases d
  · exact (HostValue.v25 _ b i).trans (w3_v8 m ρ c _ i)
  · exact (HostValue.v27 _ b i).trans (w3_v13 m ρ c _ i)
  · exact (HostValue.v29 _ b i).trans (w3_v18 m ρ c _ i)

theorem sum_parts (g : ℕ → EReal) : ∑ k ∈ Finset.range 4, ∑ q : Fin 128, g (k * 128 + q.val) = ∑ s ∈ Finset.range 512, g s := by
  rw [show (512 : ℕ) = 4 * 128 from rfl, ← Finset.sum_range_range_mul_add]
  exact Finset.sum_congr rfl fun k _ => (Finset.sum_range fun q => g (k * 128 + q)).symm

theorem terms1 (b : Fin 4) : GroupValue.terms (V4 m ρ) c (fun b s => far m c ⟨b.val, by omega⟩ s) b = total (P m c) (X m c) ⟨b.val, by omega⟩ := by
  rw [GroupValue.terms, sum_parts fun s => GroupValue.term (V4 m ρ) c b (far m c ⟨b.val, by omega⟩ s)]
  refine Finset.sum_congr rfl fun s _ => ?_
  unfold GroupValue.term kt
  rw [p1]
  have hx : (fun (i : Fin 8192) (k : Fin 256) => V4 m ρ c main_arg0 (ix3 b i k)) = X m c ⟨b.val, by omega⟩ := by
    funext i k
    refine (congrFun (W4_args m ρ c main_arg0 (by decide)) _).trans ?_
    simp [X, stack, A0]
  have hq : (fun (i : Fin 8192) => V4 m ρ c main_v30 (ix3 b (0 : Fin 1) i)) = fun i => ∑ k, X m c ⟨b.val, by omega⟩ i k * X m c ⟨b.val, by omega⟩ i k := by
    funext i
    refine (HostValue.v30 _ b i).trans ((w3_v0_1 m ρ c b i).trans ?_)
    simp [X, stack]
  rw [hx, hq]; rfl

theorem w5_v31 (hd : ∀ r f i, dist (P m c r) f i < Ideal.ofBits .f32 1900671690#32) (b : Fin 4) :
    W5 m ρ c (Proc.devRef .tc main_v31) (ix3 b (0 : Fin 1) (0 : Fin 1)) = total (P m c) (X m c) ⟨b.val, by omega⟩ := by
  rw [← terms1 m ρ c b]
  refine (congrFun (W5_arr m ρ c 6) _).trans (GroupValue.arr_terms (V4 m ρ) c ?_ ?_ b)
  · intro t q
    exact (HostValue.v21 _ t q).trans (w3_v19 m ρ c _ _)
  · intro b s i
    rw [p1]; exact hd _ _ _

/-! ## The second side's neighbourhoods -/

theorem w5_v8 (r : Fin 8) (i : Fin 8192) : W5 m ρ c (Proc.devRef .tc main_v8) (ix2 r i) = P m c r i 0 := by
  rw [W5_of m ρ c main_v8 (by decide +kernel), W4_of m ρ c main_v8 (by decide +kernel), w3_v8]
theorem w5_v13 (r : Fin 8) (i : Fin 8192) : W5 m ρ c (Proc.devRef .tc main_v13) (ix2 r i) = P m c r i 1 := by
  rw [W5_of m ρ c main_v13 (by decide +kernel), W4_of m ρ c main_v13 (by decide +kernel), w3_v13]
theorem w5_v18 (r : Fin 8) (i : Fin 8192) : W5 m ρ c (Proc.devRef .tc main_v18) (ix2 r i) = P m c r i 2 := by
  rw [W5_of m ρ c main_v18 (by decide +kernel), W4_of m ρ c main_v18 (by decide +kernel), w3_v18]
theorem w5_v0_2 (b : Fin 4) (i : Fin 8192) : W5 m ρ c (Proc.devRef .tc main_v0_2) (ix3 b i (0 : Fin 1)) = ∑ k, A1 m c b i k * A1 m c b i k := by
  rw [W5_of m ρ c main_v0_2 (by decide +kernel), W4_of m ρ c main_v0_2 (by decide +kernel), W3_of m ρ c main_v0_2 (by decide +kernel),
    W2_of m ρ c main_v0_2 (by decide +kernel)]
  exact (congrFun (W1_arr m ρ c 4) _).trans (StatsValue.arr4 (V0 m ρ) c b i)
theorem w6_v23 (t : Fin 16) (q : Fin 128) : W6 m ρ c (Proc.devRef .tc main_v23) (ix3 t q (0 : Fin 1))
    = ix (far m c ⟨4 + t.val / 4, by omega⟩ (t.val % 4 * 128 + q.val)) := by
  rw [W6_of m ρ c main_v23 (by decide +kernel), W5_of m ρ c main_v23 (by decide +kernel)]
  exact (HostValue.v23 _ t q).trans (w3_v19 m ρ c _ _)

theorem p2 (b : Fin 4) : Group2Value.p (V6 m ρ) c b = P m c ⟨4 + b.val, by omega⟩ := by
  funext i d
  unfold Group2Value.p
  fin_cases d
  · exact (HostValue.v34 _ b i).trans (w5_v8 m ρ c _ i)
  · exact (HostValue.v36 _ b i).trans (w5_v13 m ρ c _ i)
  · exact (HostValue.v38 _ b i).trans (w5_v18 m ρ c _ i)

theorem terms2 (b : Fin 4) : Group2Value.terms (V6 m ρ) c (fun b s => far m c ⟨4 + b.val, by omega⟩ s) b = total (P m c) (X m c) ⟨4 + b.val, by omega⟩ := by
  rw [Group2Value.terms, sum_parts fun s => Group2Value.term (V6 m ρ) c b (far m c ⟨4 + b.val, by omega⟩ s)]
  refine Finset.sum_congr rfl fun s _ => ?_
  unfold Group2Value.term kt
  rw [p2]
  have hx : (fun (i : Fin 8192) (k : Fin 256) => V6 m ρ c main_arg1 (ix3 b i k)) = X m c ⟨4 + b.val, by omega⟩ := by
    funext i k
    refine (congrFun (W6_args m ρ c main_arg1 (by decide)) _).trans ?_
    simp [X, stack, A1]
  have hq : (fun (i : Fin 8192) => V6 m ρ c main_v39 (ix3 b (0 : Fin 1) i)) = fun i => ∑ k, X m c ⟨4 + b.val, by omega⟩ i k * X m c ⟨4 + b.val, by omega⟩ i k := by
    funext i
    refine (HostValue.v39 _ b i).trans ((w5_v0_2 m ρ c b i).trans ?_)
    simp [X, stack]
  rw [hx, hq]; rfl

theorem w7_v40 (hd : ∀ r f i, dist (P m c r) f i < Ideal.ofBits .f32 1900671690#32) (b : Fin 4) :
    W7 m ρ c (Proc.devRef .tc main_v40) (ix3 b (0 : Fin 1) (0 : Fin 1)) = total (P m c) (X m c) ⟨4 + b.val, by omega⟩ := by
  rw [← terms2 m ρ c b]
  refine (congrFun (W7_arr m ρ c 6) _).trans (Group2Value.arr_terms (V6 m ρ) c ?_ ?_ b)
  · intro t q
    exact w6_v23 m ρ c t q
  · intro b s i
    rw [p2]; exact hd _ _ _

/-! ## The result -/

theorem w7_v32 (hd : ∀ r f i, dist (P m c r) f i < Ideal.ofBits .f32 1900671690#32) (b : Fin 4) :
    W7 m ρ c (Proc.devRef .tc main_v32) (ix1 b) = total (P m c) (X m c) ⟨b.val, by omega⟩ := by
  rw [W7_of m ρ c main_v32 (by decide +kernel)]
  exact (HostValue.v32 _ b).trans (w5_v31 m ρ c hd b)

/-- The sum over the grid's blocks of rows is the sum over all rows. -/
theorem sum_rows_all : (∑ t : Fin cfg0.N, StatsValue.part (V0 m ρ) c t) = ∑ b : Fin 4, ∑ i : Fin 8192, cos (A0 m c b i) (A1 m c b i) := by
  unfold StatsValue.part
  refine Fin.sum_points_lanes_congr (S := 8) (g := fun b i => cos (A0 m c b i) (A1 m c b i)) (fun t k ha hl => ?_) (by decide) (by decide)
  rfl

theorem w7_v3 : W7 m ρ c (Proc.devRef .tc main_v3) ix0
    = -Ideal.div (∑ b : Fin 4, ∑ i : Fin 8192, cos (A0 m c b i) (A1 m c b i)) (Ideal.ofBits .f32 1191182336#32) := by
  rw [W7_of m ρ c main_v3 (by decide +kernel), W6_of m ρ c main_v3 (by decide +kernel), W5_of m ρ c main_v3 (by decide +kernel),
    W4_of m ρ c main_v3 (by decide +kernel), W3_of m ρ c main_v3 (by decide +kernel), ← sum_rows_all m ρ c]
  refine (HostValue.v3 _).trans ?_
  have h := (congrFun (W1_arr m ρ c 2) (ix3 (0 : Fin 1) (0 : Fin 1) (0 : Fin 1))).trans (StatsValue.arr2 (V0 m ρ) c)
  exact congrArg (fun x => -Ideal.div x (Ideal.ofBits .f32 1191182336#32)) h

theorem result (hd : ∀ r f i, dist (P m c r) f i < Ideal.ofBits .f32 1900671690#32) :
    W8 m ρ c (Proc.devRef .tc main_v72) = fun _ => loss (A0 m c) (A1 m c) (A2 m c) (A3 m c) := by
  funext j
  obtain rfl : j = ix0 := by funext a; exact a.elim0
  refine (HostValue.v72 _).trans ?_
  rw [w7_v3]
  simp only [w7_v32 m ρ c hd, w7_v40 m ρ c hd]
  rfl

end Cert.KernelIdeal.Value

end
-- ==== Proof.HostRead.lean ====
/- Reads of the reference's host operations: rows gathered by their indices, and the indices of the nearest points. -/
module

public import proofs.«01_k».proof.Proof.Clouds
public import Idealize.ShloMosaic.Lib.Pointwise
public import Idealize.ShloMosaic.Lib.Pipeline.ValueKit

@[expose] public section

set_option maxRecDepth 16384

noncomputable section

namespace Cert.HostRead

open Idealize.ShloMosaic Idealize.ShloMosaic.Tactic
open Cert.Consts Cert.Order Cert.Spec Cert.Terms

/-- The word of a point's index. -/
def word (i : Fin 8192) : BitVec 32 := BitVec.ofNat 32 i.val

theorem word_toInt (i : Fin 8192) : (word i).toInt = i.val := by
  unfold word
  rw [BitVec.toInt_eq_toNat_of_lt] <;> simp only [BitVec.toNat_ofNat] <;> omega

theorem word_start (i : Fin 8192) : min (word i).toInt.toNat (8192 - 1) = i.val := by
  rw [word_toInt, Int.toNat_natCast]; omega

/-- The index read back after a negative index would have been moved up by the length. -/
theorem word_fix (i : Fin 8192) : (if IntOp.cmpi .slt (word i) 0#32 = 1#1 then IntOp.addi (word i) 8192#32 else word i) = word i := by
  have h : IntOp.cmpi .slt (word i) 0#32 = 0#1 := by
    have hi : ¬ ((i.val : ℤ) < 0) := by omega
    simp [IntOp.cmpi, BitVec.slt, word_toInt, hi]
  rw [h]; rfl

section Gather

variable {α : Type} {C n : ℕ}

abbrev rowDims (C : ℕ) (wf : GatherDims.WF ⟨3, ![8, 8192, C]⟩ ⟨3, ![8, 1, 1]⟩ ⟨3, ![8, 1, C]⟩ [2] [1] [0] [1] [0] 2 ![1, 1, C]) :
    GatherDims ⟨3, ![8, 8192, C]⟩ ⟨3, ![8, 1, 1]⟩ ⟨3, ![8, 1, C]⟩ where
  offsetDims := [2]
  collapsedSliceDims := [1]
  operandBatchingDims := [0]
  startIndicesBatchingDims := [0]
  startIndexMap := [1]
  indexVectorDim := 2
  sliceSizes := ![1, 1, C]
  wf := wf

theorem gather_row (wf : GatherDims.WF ⟨3, ![8, 8192, C]⟩ ⟨3, ![8, 1, 1]⟩ ⟨3, ![8, 1, C]⟩ [2] [1] [0] [1] [0] 2 ![1, 1, C])
    (x : (⟨3, ![8, 8192, C]⟩ : Shape).Idx → α) (idx : IVec ⟨3, ![8, 1, 1]⟩ 32) (r : Fin 8) (k : Fin C) (f : Fin 8192)
    (h : idx (ix3 r (0 : Fin 1) (0 : Fin 1)) = word f) :
    Host.gather (rowDims C wf) x idx (ix3 r (0 : Fin 1) k) = x (ix3 r f k) := by
  unfold Host.gather
  congr 1
  funext a
  refine Fin.ext ?_
  show (rowDims C wf).start _ idx a + (rowDims C wf).batchCoord _ a + (rowDims C wf).offCoord _ a = _
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowDims C wf).startIndexMap from List.mem_singleton.mpr rfl)]
    have hsi : (rowDims C wf).siIdx (ix3 r (0 : Fin 1) k) ⟨List.idxOf (1 : Fin 3) (rowDims C wf).startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    refine Eq.trans ?_ (word_start f)
    rw [← h, ← hsi]; rfl
  · have h2 : (2 : Fin 3) ∉ (rowDims C wf).startIndexMap := fun h => absurd (List.mem_singleton.mp h) (show ¬ (2 : Fin 3) = 1 by decide)
    rw [GatherDims.batchCoord_eq_zero _ _ _ (fun h => by simp at h)]
    unfold GatherDims.start
    rw [dif_neg h2]
    simp only [Nat.zero_add, Nat.add_zero]
    rfl

abbrev rowsDims (n C : ℕ) (wf : GatherDims.WF ⟨3, ![8, 8192, C]⟩ ⟨4, ![8, n, 32, 1]⟩ ⟨4, ![8, n, 32, C]⟩ [3] [1] [0] [1] [0] 3 ![1, 1, C]) :
    GatherDims ⟨3, ![8, 8192, C]⟩ ⟨4, ![8, n, 32, 1]⟩ ⟨4, ![8, n, 32, C]⟩ where
  offsetDims := [3]
  collapsedSliceDims := [1]
  operandBatchingDims := [0]
  startIndicesBatchingDims := [0]
  startIndexMap := [1]
  indexVectorDim := 3
  sliceSizes := ![1, 1, C]
  wf := wf

theorem gather_rows (wf : GatherDims.WF ⟨3, ![8, 8192, C]⟩ ⟨4, ![8, n, 32, 1]⟩ ⟨4, ![8, n, 32, C]⟩ [3] [1] [0] [1] [0] 3 ![1, 1, C])
    (x : (⟨3, ![8, 8192, C]⟩ : Shape).Idx → α) (idx : IVec ⟨4, ![8, n, 32, 1]⟩ 32) (r : Fin 8) (q : Fin n) (j : Fin 32) (k : Fin C) (f : Fin 8192)
    (h : idx (ix4 r q j (0 : Fin 1)) = word f) :
    Host.gather (rowsDims n C wf) x idx (ix4 r q j k) = x (ix3 r f k) := by
  unfold Host.gather
  congr 1
  funext a
  refine Fin.ext ?_
  show (rowsDims n C wf).start _ idx a + (rowsDims n C wf).batchCoord _ a + (rowsDims n C wf).offCoord _ a = _
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowsDims n C wf).startIndexMap from List.mem_singleton.mpr rfl)]
    have hsi : (rowsDims n C wf).siIdx (ix4 r q j k) ⟨List.idxOf (1 : Fin 3) (rowsDims n C wf).startIndexMap,
        List.idxOf_lt_length_iff.2 (List.mem_singleton.mpr rfl)⟩ = ix4 r q j (0 : Fin 1) := by
      funext b; refine Fin.ext ?_
      match b with
      | ⟨0, _⟩ => rfl
      | ⟨1, _⟩ => rfl
      | ⟨2, _⟩ => rfl
      | ⟨3, _⟩ => rfl
    refine Eq.trans ?_ (word_start f)
    rw [← h, ← hsi]; rfl
  · have h2 : (2 : Fin 3) ∉ (rowsDims n C wf).startIndexMap := fun h => absurd (List.mem_singleton.mp h) (show ¬ (2 : Fin 3) = 1 by decide)
    rw [GatherDims.batchCoord_eq_zero _ _ _ (fun h => by simp at h)]
    unfold GatherDims.start
    rw [dif_neg h2]
    simp only [Nat.zero_add, Nat.add_zero]
    rfl

end Gather

section TopK

variable {n : ℕ}

theorem cmp_gt (x y : Ideal .f32) : (FloatOps.cmpfTotal .gt x y == 1#1) = decide ((y : EReal) < x) := by
  show (BitVec.ofBool (decide ((y : EReal) < x)) == 1#1) = _
  cases decide ((y : EReal) < x) <;> rfl

theorem rank_sorted {N : ℕ} (v : Fin N → EReal) (g : Fin N → Fin N → Bool) (hg : ∀ a b, g a b = decide (v b < v a)) (k : Fin N) :
    rank v (sortedFrom g k) = k := by
  obtain rfl : g = fun a b => decide (v b < v a) := funext fun a => funext fun b => hg a b
  exact rank_sortedFrom v k

/-- The `k`-th nearest: the position of the `k`-th greatest entry. -/
theorem topK_nth {N : ℕ} (hN : 32 ≤ N) (x : FVec Ideal ⟨3, ![8, n, N]⟩ .f32) (h : (⟨3, ![8, n, N]⟩ : Shape).Slices (fun _ => 0) ⟨3, ![8, n, 32]⟩)
    (r : Fin 8) (q : Fin n) (k : Fin 32) :
    (Host.topK ⟨3, ![8, n, 32]⟩ 2 (FloatOps.cmpfTotal .gt) x h).2 (ix3 r q k)
      = BitVec.ofNat 32 (nth (fun i => x (ix3 r q i)) k.val (by omega)).val := by
  let J : (⟨3, ![8, n, N]⟩ : Shape).Idx := fun a => ⟨0 + ((ix3 r q k) (Fin.cast h.1 a)).val, by
    have := h.2 a; have := ((ix3 r q k) (Fin.cast h.1 a)).isLt; omega⟩
  have hJ : ∀ i : Fin N, J.along (2 : Fin 3) i = ix3 r q i := fun i => by
    funext a
    apply Fin.ext
    match a with
    | ⟨0, _⟩ => show 0 + _ = _; exact Nat.zero_add _
    | ⟨1, _⟩ => show 0 + _ = _; exact Nat.zero_add _
    | ⟨2, _⟩ => rfl
  have e : (Host.topK ⟨3, ![8, n, 32]⟩ 2 (FloatOps.cmpfTotal .gt) x h).2 (ix3 r q k)
      = BitVec.ofNat 32 (sortedFrom (fun a b => FloatOps.cmpfTotal .gt (x (J.along (2 : Fin 3) a)) (x (J.along (2 : Fin 3) b)) == 1#1)
          (⟨0 + k.val, by omega⟩ : Fin N)).val := rfl
  rw [e]
  congr 2
  refine eq_nth (v := fun i => x (ix3 r q i)) (by omega) ((rank_sorted _ _ (fun a b => ?_) _).trans (Nat.zero_add _))
  rw [hJ, hJ]
  exact cmp_gt _ _

theorem topK_first {N : ℕ} (hN : 0 < N) (x : FVec Ideal ⟨2, ![8, N]⟩ .f32) (h : (⟨2, ![8, N]⟩ : Shape).Slices (fun _ => 0) ⟨2, ![8, 1]⟩)
    (r : Fin 8) (f : Fin N) (hf : rank (fun i => x (ix2 r i)) f = 0) :
    (Host.topK ⟨2, ![8, 1]⟩ 1 (FloatOps.cmpfTotal .gt) x h).2 (ix2 r (0 : Fin 1)) = BitVec.ofNat 32 f.val := by
  let J : (⟨2, ![8, N]⟩ : Shape).Idx := fun a => ⟨0 + ((ix2 r (0 : Fin 1)) (Fin.cast h.1 a)).val, by
    have := h.2 a; have := ((ix2 r (0 : Fin 1)) (Fin.cast h.1 a)).isLt; omega⟩
  have hJ : ∀ i : Fin N, J.along (1 : Fin 2) i = ix2 r i := fun i => by
    funext a
    apply Fin.ext
    match a with
    | ⟨0, _⟩ => show 0 + _ = _; exact Nat.zero_add _
    | ⟨1, _⟩ => rfl
  have e : (Host.topK ⟨2, ![8, 1]⟩ 1 (FloatOps.cmpfTotal .gt) x h).2 (ix2 r (0 : Fin 1))
      = BitVec.ofNat 32 (sortedFrom (fun a b => FloatOps.cmpfTotal .gt (x (J.along (1 : Fin 2) a)) (x (J.along (1 : Fin 2) b)) == 1#1)
          (⟨0 + 0, by omega⟩ : Fin N)).val := rfl
  rw [e]
  congr 2
  refine rank_injective (fun i => x (ix2 r i)) ((rank_sorted _ _ (fun a b => ?_) _).trans hf.symm)
  rw [hJ, hJ]
  exact cmp_gt _ _

end TopK

end Cert.HostRead

end
-- ==== Proof.RefTrip.lean ====
/- One trip of the reference's sampling loop. -/
module

public import proofs.«01_k».proof.Proof.HostRead
public import proofs.«01_k».proof.Proof.Gen.ReferenceIdeal.Step

@[expose] public section

set_option maxRecDepth 16384

noncomputable section

namespace Cert.ReferenceIdeal.Trip

open Cert.ReferenceIdeal Cert.ReferenceIdeal.Gen Cert.ReferenceIdeal.Step
open Idealize.ShloMosaic Idealize.ShloMosaic.TcCoe Idealize.ShloMosaic.Tactic
open Cert.Consts Cert.Order Cert.Spec Cert.Terms Cert.HostRead

variable (j : ℕ) (s : State Ideal) (P : Fin 8 → Fin 8192 → Fin 3 → EReal) (X : Fin 8 → Fin 8192 → Fin 256 → EReal) (f : Fin 8 → Fin 8192)

variable (hP : ∀ r i d, s.main_v5_0 (ix3 r i d) = P r i d) (hX : ∀ r i k, s.main_v5_1 (ix3 r i k) = X r i k)
  (hf : ∀ r, s.main_v5_4 (ix1 r) = word (f r))

include hf in
theorem at8 (r : Fin 8) : b8 j s (ix3 r (0 : Fin 1) (0 : Fin 1)) = word (f r) := by
  pointwise [b0, b1, b2, b3, b4, b5, b6, b7, b8]
  rw [hf]
  exact word_fix (f r)

include hf in
theorem at36 (r : Fin 8) : b36 j s (ix3 r (0 : Fin 1) (0 : Fin 1)) = word (f r) := by
  pointwise [b28, b29, b30, b31, b32, b33, b34, b35, b36]
  rw [hf]
  exact word_fix (f r)

include hP hf in
theorem at9 (r : Fin 8) (d : Fin 3) : b9 j s (ix3 r (0 : Fin 1) d) = P r (f r) d := by
  refine Eq.trans ?_ (hP r (f r) d)
  exact gather_row _ _ _ r d (f r) (at8 j s f hf r)

include hX hf in
theorem at37 (r : Fin 8) (k : Fin 256) : b37 j s (ix3 r (0 : Fin 1) k) = X r (f r) k := by
  refine Eq.trans ?_ (hX r (f r) k)
  exact gather_row _ _ _ r k (f r) (at36 j s f hf r)

include hP hf in
theorem at25 (r : Fin 8) (i : Fin 8192) : b25 j s (ix3 r (0 : Fin 1) i) = nearness (P r) (f r) i := by
  have h12 : b12 j s (ix2 r (0 : Fin 1)) = norm2 (P r) (f r) := by
    pointwise [b10, b11, b12]
    simp only [at9 j s P f hP hf, Fin.sum_univ_three]; rfl
  have h16 : b16 j s (ix2 r i) = norm2 (P r) i := by
    pointwise [b14, b15, b16]
    simp only [hP, Fin.sum_univ_three]; rfl
  have h20 : b20 j s (ix3 r (0 : Fin 1) i) = (P r (f r) 0 * P r i 0 + P r (f r) 1 * P r i 1) + P r (f r) 2 * P r i 2 := by
    pointwise [b20]
    simp only [at9 j s P f hP hf, hP, Fin.sum_univ_three]
  pointwise [b13, b17, b18, b19, b21, b22, b23, b24, b25]
  rw [h12, h16, h20]; rfl

include hP hf in
theorem at27 (r : Fin 8) (q : Fin 32) : b27 j s (ix3 r (0 : Fin 1) q) = word (nth (nearness (P r) (f r)) q.val (by omega)) := by
  have h := topK_nth (N := 8192) (by norm_num) (b25 j s) sliceFits_S8x1x8192_S8x1x32 r (0 : Fin 1) q
  have e : (fun i => b25 j s (ix3 r (0 : Fin 1) i)) = nearness (P r) (f r) := funext fun i => at25 j s P f hP hf r i
  rw [e] at h
  exact h

include hP hX hf in
theorem at48 (r : Fin 8) (q : Fin 33) (k : Fin 256) : b48 j s (ix4 r (0 : Fin 1) q k) = X r (rows (P r) (f r) q) k := by
  have h45 : ∀ q : Fin 32, b45 j s (ix4 r (0 : Fin 1) q (0 : Fin 1)) = word (nth (nearness (P r) (f r)) q.val (by omega)) := fun q => by
    pointwise [b38, b39, b40, b41, b42, b43, b44, b45]
    rw [at27 j s P f hP hf]
    exact word_fix _
  have h46 : ∀ q : Fin 32, b46 j s (ix4 r (0 : Fin 1) q k) = X r (nth (nearness (P r) (f r)) q.val (by omega)) k := fun q => by
    refine Eq.trans ?_ (hX r _ k)
    exact gather_rows _ _ _ r (0 : Fin 1) q k _ (h45 q)
  pointwise [b48, b47]
  simp only [at37 j s X f hX hf, h46]
  unfold rows
  split <;> rfl

include hP hX hf in
theorem at102 (r : Fin 8) : b102 j s (ix1 r) = rt (P r) (X r) (f r) := by
  pointwise [b49, b50, b51, b52, b53, b54, b55, b56, b57, b58, b59, b60, b61, b62, b63, b64, b65, b66, b67, b68, b69, b70, b71, b72, b73, b74, b75, b76, b77, b78,
   b79, b80, b81, b82, b83, b84, b85, b86, b87, b88, b89, b90, b91, b92, b93, b94, b95, b96, b97, b98, b99, b100, b101, b102]
  simp only [at48 j s P X f hP hX hf]
  unfold rt rterm
  rw [one_mul]
  rfl

include hP hf in
theorem at109 (r : Fin 8) (i : Fin 8192) : b109 j s (ix2 r i) = min (s.main_v5_3 (ix2 r i)) (gap (P r) (f r) i) := by
  pointwise [b104, b105, b106, b107, b108, b109]
  simp only [at9 j s P f hP hf, hP, Fin.sum_univ_three]
  rfl

theorem at112 (r : Fin 8) (g : Fin 8192) (hg : rank (fun i => b109 j s (ix2 r i)) g = 0) : b112 j s (ix1 r) = word g := by
  have h := topK_first (N := 8192) (by norm_num) (b109 j s) sliceFits_S8x8192_S8x1 r g hg
  pointwise [b112]
  exact h

/-- What a trip finds. -/
structure Inv (j : ℕ) (s : State Ideal) : Prop where
  xyz : ∀ r i d, s.main_v5_0 (ix3 r i d) = P r i d
  feats : ∀ r i k, s.main_v5_1 (ix3 r i k) = X r i k
  far : ∀ r, s.main_v5_4 (ix1 r) = word (sample (P r) j).2
  near : ∀ r i, s.main_v5_3 (ix2 r i) = (sample (P r) j).1 i
  sum : ∀ r, s.main_v5_5 (ix1 r) = ∑ t ∈ Finset.range j, rt (P r) (X r) (sample (P r) t).2

variable {j s P X}

theorem inv_step (h : Inv P X j s) : Inv P X (j + 1) (step j s) where
  xyz := h.xyz
  feats := h.feats
  near r i := by
    rw [step_main_v5_3, at109 j s P (fun r => (sample (P r) j).2) h.xyz h.far, h.near, sample_dist]
  far r := by
    rw [step_main_v5_4]
    refine at112 j s r _ ?_
    have e : (fun i => b109 j s (ix2 r i)) = (sample (P r) (j + 1)).1 := by
      funext i
      rw [at109 j s P (fun r => (sample (P r) j).2) h.xyz h.far, h.near, sample_dist]
    rw [e]
    exact rank_next (P r) j
  sum r := by
    rw [step_main_v5_5, Finset.sum_range_succ, ← h.sum r, ← at102 j s P X (fun r => (sample (P r) j).2) h.xyz h.feats h.far r]
    pointwise [b103]

theorem inv_init (a0 a1 : FVec Ideal S4x8192x256 .f32) (a2 a3 : FVec Ideal S4x8192x3 .f32) :
    Inv (Cert.Clouds.stack (fun b i d => a2 (ix3 b i d)) fun b i d => a3 (ix3 b i d))
      (Cert.Clouds.stack (fun b i k => a0 (ix3 b i k)) fun b i k => a1 (ix3 b i k)) 0 (init a0 a1 a2 a3) where
  xyz r i d := by
    unfold init
    pointwise [A_main_v0, Cert.Clouds.stack]
  feats r i k := by
    unfold init
    pointwise [A_main_v1, Cert.Clouds.stack]
  near r i := by
    rw [sample_zero]
    unfold init
    pointwise [K_main_v2, K_main_cst]
  far r := by
    rw [sample_zero]
    unfold init
    pointwise [K_main_v3, K_main_c]
    rfl
  sum r := by
    unfold init
    pointwise [K_main_v4, K_main_cst_0]
    simp

open Cert.Clouds in
/-- The reference's result, of the totals its loop leaves. -/
theorem result (s : State Ideal) (a0 a1 : FVec Ideal S4x8192x256 .f32) : R_main_v50 s a0 a1
    = fun _ => tail
        (-Ideal.div (∑ b : Fin 4, Ideal.div (∑ i : Fin 8192, Cert.Clouds.cos (fun k => a0 (ix3 b i k)) fun k => a1 (ix3 b i k)) (Ideal.ofBits .f32 1174405120#32))
          (Ideal.ofBits .f32 1082130432#32))
        (fun b => s.main_v5_5 (ix1 (⟨b.val, by omega⟩ : Fin 8))) (fun b => s.main_v5_5 (ix1 (⟨4 + b.val, by omega⟩ : Fin 8))) := by
  funext j
  obtain rfl : j = ix0 := by funext a; exact a.elim0
  pointwise [R_main_v50]
  simp only [tail, chain, Cert.Clouds.cos, add_assoc]
  rfl

end Cert.ReferenceIdeal.Trip

end
-- ==== Proof.PreRead.lean ====
/- The precondition, read: every coordinate and feature is a bounded real number, and no neighbourhood's mean direction or row is near zero. -/
module

public import proofs.«01_k».proof.Proof.HostRead
public import proofs.«01_k».proof.Proof.Gen.Pre_neighbourhoods_apart_from_zero
public import Idealize.ShloMosaic.Lib.ReduceAll

@[expose] public section

set_option maxRecDepth 16384

noncomputable section

namespace Cert.PreRead

open Cert.Pre_neighbourhoods_apart_from_zero Cert.Pre_neighbourhoods_apart_from_zero.Gen
open Idealize.ShloMosaic Idealize.ShloMosaic.TcCoe Idealize.ShloMosaic.Tactic
open Cert.Consts Cert.Order Cert.Spec Cert.Terms Cert.HostRead Cert.Clouds

instance : Subsingleton S_.Idx := ⟨fun a b => funext fun i => i.elim0⟩

theorem andi_one {a b : BitVec 1} (h : IntOp.andi a b = 1#1) : a = 1#1 ∧ b = 1#1 := by
  revert a b; decide

theorem oge_one {x y : EReal} (h : Ideal.cmp .oge x y = 1#1) : y ≤ x := by
  unfold Ideal.cmp at h
  by_contra hn
  simp [hn] at h

theorem ole_one {x y : EReal} (h : Ideal.cmp .ole x y = 1#1) : x ≤ y := by
  unfold Ideal.cmp at h
  by_contra hn
  simp [hn] at h

theorem c_bound : Ideal.ofBits .f32 1454761505#32 = ((11920929 * 2 ^ 23 : ℝ) : EReal) := by
  simp [Ideal.ofBits, Ideal.ieee]

/-- The last part: the clamp of the reference's cosine is never taken. -/
theorem part2 (w : IVec S_ 1) (D : FVec Ideal S8x8192x33x256 .f32) (h : fn_part2 (F := Ideal) w D ix0 = 1#1) :
    w ix0 = 1#1 ∧ ∀ (r : Fin 8) (c : Fin 8192) (j : Fin 33), Ideal.ofBits .f32 841731191#32 ≤ lengths (fun j k => D (ix4 r c j k)) j := by
  unfold fn_part2 at h
  obtain ⟨h1, h2⟩ := andi_one h
  refine ⟨h1, fun r c j => ?_⟩
  have h4 := oge_one (Host.reduce_andi_all _ _ _ _ _ h2 (ix3 r c j))
  refine (le_of_eq ?_).trans (h4.trans (le_of_eq ?_))
  · clear h h1 h2 h4
    pointwise
  · clear h h1 h2 h4
    pointwise [lengths, avg]

/-- The middle part: the rows are a point's thirty-two nearest points and the point itself. -/
theorem part1 (P : Fin 8 → Fin 8192 → Fin 3 → EReal) (X : Fin 8 → Fin 8192 → Fin 256 → EReal) (x : FVec Ideal S8x8192x256 .f32) (w : IVec S_ 1)
    (n : FVec Ideal S8x8192 .f32) (g : FVec Ideal S8x8192x8192x3 .f32) (z : FVec Ideal S_ .f32)
    (hX : ∀ r i k, x (ix3 r i k) = X r i k) (hn : ∀ r i, n (ix2 r i) = norm2 (P r) i) (hg : ∀ r c i d, g (ix4 r c i d) = P r c d * P r i d)
    (hz : z = constant S_ .f32 0#32) (h : fn_part1 (F := Ideal) x w n g z ix0 = 1#1) :
    w ix0 = 1#1 ∧ ∀ (r : Fin 8) (c : Fin 8192) (j : Fin 33), Ideal.ofBits .f32 841731191#32 ≤ lengths (fun j => X r (rows (P r) c j)) j := by
  subst hz
  unfold fn_part1 at h
  dsimp only at h
  obtain ⟨h1, h2⟩ := part2 _ _ h
  refine ⟨h1, fun r c j => (h2 r c j).trans (le_of_eq ?_)⟩
  clear h h1 h2
  congr 1
  funext q k
  have hnear : ∀ (i : Fin 8192), (Host.negf (subf (addf
      (broadcastInDim S8x8192x8192 ![0, 1, 2] bcast_S8x8192x1_S8x8192x8192_0_1_2 (broadcastInDim S8x8192x1 ![0, 1] bcast_S8x8192_S8x8192x1_0_1 n))
      (broadcastInDim S8x8192x8192 ![0, 1, 2] bcast_S8x1x8192_S8x8192x8192_0_1_2 (broadcastInDim S8x1x8192 ![0, 2] bcast_S8x8192_S8x1x8192_0_2 n)))
      (mulf (broadcastInDim S8x8192x8192 ![] bcast_S_S8x8192x8192 (constant S_ .f32 0x40000000#32))
        (Host.reduceAdd g (constant S_ .f32 0#32) reducesTo_S8x8192x8192x3_S8x8192x8192_d3 h_S_))) : FVec Ideal S8x8192x8192 .f32) (ix3 r c i)
      = nearness (P r) c i := fun i => by
    pointwise
    simp only [hn, hg, Fin.sum_univ_three]
    rfl
  generalize (Host.negf _ : FVec Ideal S8x8192x8192 .f32) = N at hnear ⊢
  have htop : ∀ q : Fin 32, (Host.topK S8x8192x32 2 (FloatOps.cmpfTotal .gt) N sliceFits_S8x8192x8192_S8x8192x32).2 (ix3 r c q)
      = word (nth (nearness (P r) c) q.val (by omega)) := fun q => by
    have h := topK_nth (N := 8192) (by norm_num) N sliceFits_S8x8192x8192_S8x8192x32 r c q
    have e : (fun i => N (ix3 r c i)) = nearness (P r) c := funext hnear
    rw [e] at h
    exact h
  generalize (Host.topK S8x8192x32 2 (FloatOps.cmpfTotal .gt) N sliceFits_S8x8192x8192_S8x8192x32).2 = I at htop ⊢
  pointwise
  unfold rows
  split
  · rename_i hq
    refine Eq.trans ?_ (hX r _ k)
    refine gather_rows _ _ _ r c (⟨q.val, hq⟩ : Fin 32) k _ ?_
    pointwise
    rw [htop]
    exact word_fix _
  · exact hX r c k

/-- An absolute value within the bound is that of a real number within it. -/
theorem real_of_abs {x : EReal} (h : FloatOps.absf (F := Ideal) (φ := .f32) x ≤ Ideal.ofBits .f32 1454761505#32) :
    x = ((x.toReal : ℝ) : EReal) ∧ |x.toReal| ≤ 11 / 10 * 10 ^ 14 := by
  rw [c_bound] at h
  induction x using EReal.rec with
  | bot =>
    have h' : max (⊥ : EReal) (-⊥) ≤ ((11920929 * 2 ^ 23 : ℝ) : EReal) := h
    rw [EReal.neg_bot, max_eq_right bot_le] at h'
    exact absurd (top_le_iff.mp h') (EReal.coe_ne_top _)
  | top =>
    have h' : max (⊤ : EReal) (-⊤) ≤ ((11920929 * 2 ^ 23 : ℝ) : EReal) := h
    rw [max_eq_left le_top] at h'
    exact absurd (top_le_iff.mp h') (EReal.coe_ne_top _)
  | coe r =>
    refine ⟨rfl, ?_⟩
    have h' : ((|r| : ℝ) : EReal) ≤ ((11920929 * 2 ^ 23 : ℝ) : EReal) := h
    rw [EReal.toReal_coe]
    refine (EReal.coe_le_coe_iff.mp h').trans (by norm_num)

/-- The precondition, read at the eight clouds. -/
theorem read (a0 a1 : FVec Ideal S4x8192x256 .f32) (a2 a3 a4 : FVec Ideal S4x8192x3 .f32) (h : fn (F := Ideal) a0 a1 a2 a3 a4 = fun _ => 1#1)
    (P : Fin 8 → Fin 8192 → Fin 3 → EReal) (hP : P = stack (fun b i d => a2 (ix3 b i d)) fun b i d => a3 (ix3 b i d))
    (X : Fin 8 → Fin 8192 → Fin 256 → EReal) (hX : X = stack (fun b i k => a0 (ix3 b i k)) fun b i k => a1 (ix3 b i k)) :
    (∀ r i d, P r i d = (((P r i d).toReal : ℝ) : EReal) ∧ |(P r i d).toReal| ≤ 11 / 10 * 10 ^ 14)
    ∧ (∀ r i k, X r i k = (((X r i k).toReal : ℝ) : EReal) ∧ |(X r i k).toReal| ≤ 11 / 10 * 10 ^ 14)
    ∧ ∀ (r : Fin 8) (c : Fin 8192) (j : Fin 33), Ideal.ofBits .f32 841731191#32 ≤ lengths (fun j => X r (rows (P r) c j)) j := by
  have h0 := congrFun h ix0
  clear h
  have hxyz : ∀ r i d, concatenate S8x8192x3 0 [⟨S4x8192x3, a2⟩, ⟨S4x8192x3, a3⟩] concatenates_S4x8192x3_S4x8192x3_S8x8192x3_d0 (ix3 r i d) = P r i d := by
    intro r i d
    subst hP
    pointwise [stack]
  have hfe : ∀ r i k, concatenate S8x8192x256 0 [⟨S4x8192x256, a0⟩, ⟨S4x8192x256, a1⟩] concatenates_S4x8192x256_S4x8192x256_S8x8192x256_d0 (ix3 r i k) = X r i k := by
    intro r i k
    subst hX
    pointwise [stack]
  unfold fn at h0
  dsimp only at h0
  generalize (concatenate S8x8192x3 0 [⟨S4x8192x3, a2⟩, ⟨S4x8192x3, a3⟩] concatenates_S4x8192x3_S4x8192x3_S8x8192x3_d0 : FVec Ideal S8x8192x3 .f32) = p at hxyz h0
  generalize (concatenate S8x8192x256 0 [⟨S4x8192x256, a0⟩, ⟨S4x8192x256, a1⟩] concatenates_S4x8192x256_S4x8192x256_S8x8192x256_d0 : FVec Ideal S8x8192x256 .f32) = x at hfe h0
  obtain ⟨h1, h2⟩ := part1 P X _ _ _ _ _ hfe (fun r i => by
      pointwise
      simp only [hxyz, Fin.sum_univ_three]; rfl) (fun r c i d => by
      pointwise
      simp only [hxyz]) rfl h0
  obtain ⟨hp, hx⟩ := andi_one h1
  refine ⟨fun r i d => ?_, fun r i k => ?_, h2⟩
  · have := ole_one (Host.reduce_andi_all _ _ _ _ _ hp (ix3 r i d))
    rw [← hxyz]
    exact real_of_abs this
  · have := ole_one (Host.reduce_andi_all _ _ _ _ _ hx (ix3 r i k))
    rw [← hfe]
    exact real_of_abs this

end Cert.PreRead

end
-- ==== Proof.Algebraic.lean ====
/- The kernel's result is the reference's, on every input that meets the precondition. -/
module

public import proofs.«01_k».proof.Defs
public import proofs.«01_k».proof.Proof.KernelValue
public import proofs.«01_k».proof.Proof.RefTrip
public import proofs.«01_k».proof.Proof.PreRead
public import proofs.«01_k».proof.Proof.Gen.ReferenceIdeal.StepRun

@[expose] public section

set_option maxRecDepth 16384

noncomputable section

namespace Cert.Algebraic

open Idealize.ShloMosaic Idealize.SL.Sem Idealize.ShloMosaic.TcCoe Idealize.ShloMosaic.Tactic
open Cert.Consts Cert.Order Cert.Spec Cert.Terms Cert.Clouds
open Cert.ReferenceIdeal.Step (State init step R_main_v50)

section Value

variable (a0 a1 : FVec Ideal Cert.ReferenceIdeal.S4x8192x256 .f32) (a2 a3 : FVec Ideal Cert.ReferenceIdeal.S4x8192x3 .f32)

/-- The points and the features of the eight clouds. -/
abbrev P : Fin 8 → Fin 8192 → Fin 3 → EReal := stack (fun b i d => a2 (ix3 b i d)) fun b i d => a3 (ix3 b i d)
abbrev X : Fin 8 → Fin 8192 → Fin 256 → EReal := stack (fun b i k => a0 (ix3 b i k)) fun b i k => a1 (ix3 b i k)

variable (it : ℕ → State Ideal) (h0 : it 0 = init a0 a1 a2 a3) (hs : ∀ n, it (n + 1) = step n (it n))

include h0 hs in
theorem inv : ∀ n, Cert.ReferenceIdeal.Trip.Inv (P a2 a3) (X a0 a1) n (it n)
  | 0 => by rw [h0]; exact Cert.ReferenceIdeal.Trip.inv_init a0 a1 a2 a3
  | n + 1 => by rw [hs]; exact Cert.ReferenceIdeal.Trip.inv_step (inv n)

include h0 hs in
/-- The reference's result is the kernel's, when each term is. -/
theorem reference (hk : ∀ r c, kt (P a2 a3 r) (X a0 a1 r) c = rt (P a2 a3 r) (X a0 a1 r) c) :
    R_main_v50 (it 512) a0 a1 = fun _ => loss (fun b i k => a0 (ix3 b i k)) (fun b i k => a1 (ix3 b i k)) (fun b i d => a2 (ix3 b i d)) fun b i d => a3 (ix3 b i d) := by
  have hsum : ∀ r, (it 512).main_v5_5 (ix1 r) = total (P a2 a3) (X a0 a1) r := fun r => by
    rw [(inv a0 a1 a2 a3 it h0 hs 512).sum r]
    exact Finset.sum_congr rfl fun s _ => (hk r _).symm
  rw [Cert.ReferenceIdeal.Trip.result]
  funext _
  rw [mean_mean]
  simp only [hsum]
  rfl

end Value

theorem algebraic : @Cert.algebraic_KernelIdeal_ReferenceIdeal_pre_neighbourhoods_apart_from_zero Cert.KernelIdeal.Gen.facts
    Cert.ReferenceIdeal.Gen.facts Cert.Pre_neighbourhoods_apart_from_zero.Gen.facts := by
  intro m g m' g' hpre hm
  have hread := fun c : Dev Cert.KernelIdeal.nD => Cert.PreRead.read _ _ _ _ _ (hpre c) _ rfl _ rfl
  have hd : ∀ (c : Dev Cert.KernelIdeal.nD) r f i, dist (Cert.KernelIdeal.Value.P m c r) f i < Ideal.ofBits .f32 1900671690#32 := fun c r f i =>
    dist_lt (fun i d => ((hread c).1 r i d).1) (fun i d => ((hread c).1 r i d).2) f i
  let v0 : (c : Dev Cert.KernelIdeal.nD) → Buf (Elt Ideal) ((c.tc : Thread Cert.KernelIdeal.nD Cert.KernelIdeal.τ).loc Cert.KernelIdeal.main_v72) :=
    fun c => (Cert.KernelIdeal.Run.W8 m g c (Proc.devRef .tc Cert.KernelIdeal.main_v72) :)
  refine ⟨v0, ?_, ?_⟩
  · refine (θ_run _ _ _).mono (fun r h c => ?_) (Cert.KernelIdeal.Run.run m g)
    have hb := fun b hb => h.1 c _ (Cert.KernelIdeal.Run.mem_uc b hb)
    exact ⟨hb _ (by decide),
      (hb _ (by decide)).trans (Cert.KernelIdeal.Run.W8_args m g c Cert.KernelIdeal.main_arg0 (by decide)),
      (hb _ (by decide)).trans (Cert.KernelIdeal.Run.W8_args m g c Cert.KernelIdeal.main_arg1 (by decide)),
      (hb _ (by decide)).trans (Cert.KernelIdeal.Run.W8_args m g c Cert.KernelIdeal.main_arg2 (by decide)),
      (hb _ (by decide)).trans (Cert.KernelIdeal.Run.W8_args m g c Cert.KernelIdeal.main_arg3 (by decide)),
      (hb _ (by decide)).trans (Cert.KernelIdeal.Run.W8_args m g c Cert.KernelIdeal.main_arg4 (by decide))⟩
  · let it : Dev Cert.ReferenceIdeal.nD → ℕ → State Ideal := fun c n => Nat.rec (Cert.ReferenceIdeal.StepRun.initState m' c) (fun n s => step n s) n
    refine (θ_run _ _ _).mono (fun r h c => ⟨(h c).1.trans ?_, (h c).2⟩) (Cert.ReferenceIdeal.StepRun.run_iter m' g' it (fun _ => rfl) fun _ _ => rfl)
    obtain ⟨e0, e1, e2, e3, -⟩ := hm c
    have h := reference (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) (it c) rfl (fun _ => rfl) (fun r f => by
        rw [e0, e1, e2, e3]
        exact kt_eq_rt (fun i k => ((hread c).2.1 r i k).1) (fun i k => ((hread c).2.1 r i k).2.trans (by norm_num)) ((hread c).2.2 r f))
    refine h.trans ?_
    rw [e0, e1, e2, e3]
    exact (Cert.KernelIdeal.Value.result m g c (hd c)).symm

end Cert.Algebraic

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_neighbourhoods_apart_from_zero
public import proofs.«01_k».proof.Proof.Frames
public import proofs.«01_k».proof.Proof.Algebraic
public import proofs.«01_k».proof.Proof.Gen.ReferenceIdeal.Run
public import proofs.«01_k».proof.Proof.Gen.ReferenceIdeal.Step
public import proofs.«01_k».proof.Proof.Gen.ReferenceIdeal.StepRun
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_neighbourhoods_apart_from_zero.Gen.facts, Cert.Frames.kernel, Cert.Frames.kernelIdeal, fun m g _ => Cert.KernelIdeal.Run.frame m g,
  Cert.Frames.referenceIdeal, fun m g _ => Cert.Frames.reference_frame m g, trivial, Cert.Algebraic.algebraic⟩

end Cert.Proof

end
